-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1x50000x3 : Shape := ⟨3, ![1, 50000, 3]⟩
abbrev S1x3x3 : Shape := ⟨3, ![1, 3, 3]⟩
abbrev S27x3 : Shape := ⟨2, ![27, 3]⟩
abbrev S2x3200000 : Shape := ⟨2, ![2, 3200000]⟩
abbrev S3200000 : Shape := ⟨1, ![3200000]⟩
abbrev S_ : Shape := ⟨0, ![]⟩

class Facts : Prop where
  bcast_S_S2x3200000 : S_.BroadcastsInDim S2x3200000 (![] : Fin 0 → Fin S2x3200000.rank)
  reducesTo_S2x3200000_S_d0_1 : S2x3200000.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S1x50000x3 .f32) (main_arg1 : FVec F S1x3x3 .f32) (main_arg2 : FVec F S27x3 .f32) (main_arg3 : IVec S1x50000x3 32) (main_arg4 : IVec S2x3200000 32) (main_arg5 : IVec S3200000 32) (main_arg6 : FVec F S_ .f32) : IVec S_ 1 :=
  let main_c : IVec S_ 32 := constantI S_ 32 0#32
  let main_v0 : IVec S2x3200000 32 := broadcastInDim S2x3200000 ![] bcast_S_S2x3200000 main_c
  let main_v1 : IVec S2x3200000 1 := cmpi .sge main_arg4 main_v0
  let main_c_0 : IVec S_ 1 := constantI S_ 1 1#1
  let main_v2 : IVec S_ 1 := (fun x v => Host.reduce IntOp.andi x v reducesTo_S2x3200000_S_d0_1 h_S_) main_v1 main_c_0
  let main_c_1 : IVec S_ 32 := constantI S_ 32 50000#32
  let main_v3 : IVec S2x3200000 32 := broadcastInDim S2x3200000 ![] bcast_S_S2x3200000 main_c_1
  let main_v4 : IVec S2x3200000 1 := cmpi .slt main_arg4 main_v3
  let main_c_2 : IVec S_ 1 := constantI S_ 1 1#1
  let main_v5 : IVec S_ 1 := (fun x v => Host.reduce IntOp.andi x v reducesTo_S2x3200000_S_d0_1 h_S_) main_v4 main_c_2
  let main_v6 : IVec S_ 1 := andi main_v2 main_v5
  let main_c_3 : IVec S_ 32 := constantI S_ 32 0#32
  let main_v7 : IVec S3200000 32 := broadcastInDim S3200000 ![] bcast_S_S3200000 main_c_3
  let main_v8 : IVec S3200000 1 := cmpi .sge main_arg5 main_v7
  let main_c_4 : IVec S_ 1 := constantI S_ 1 1#1
  let main_v9 : IVec S_ 1 := (fun x v => Host.reduce IntOp.andi x v reducesTo_S3200000_S_d0 h_S_) main_v8 main_c_4
  let main_v10 : IVec S_ 1 := andi main_v6 main_v9
  let main_c_5 : IVec S_ 32 := constantI S_ 32 27#32
  let main_v11 : IVec S3200000 32 := broadcastInDim S3200000 ![] bcast_S_S3200000 main_c_5
  let main_v12 : IVec S3200000 1 := cmpi .slt main_arg5 main_v11
  let main_c_6 : IVec S_ 1 := constantI S_ 1 1#1
  let main_v13 : IVec S_ 1 := (fun x v => Host.reduce IntOp.andi x v reducesTo_S3200000_S_d0 h_S_) main_v12 main_c_6
  let main_v14 : IVec S_ 1 := andi main_v10 main_v13
  main_v14
-- ==== Pre_in_range_finite.lean ====
abbrev S1x50000x3 : Shape := ⟨3, ![1, 50000, 3]⟩
abbrev S1x3x3 : Shape := ⟨3, ![1, 3, 3]⟩
abbrev S27x3 : Shape := ⟨2, ![27, 3]⟩
abbrev S2x3200000 : Shape := ⟨2, ![2, 3200000]⟩
abbrev S3200000 : Shape := ⟨1, ![3200000]⟩
abbrev S_ : Shape := ⟨0, ![]⟩

class Facts : Prop where
  bcast_S_S2x3200000 : S_.BroadcastsInDim S2x3200000 (![] : Fin 0 → Fin S2x3200000.rank)
  reducesTo_S2x3200000_S_d0_1 : S2x3200000.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S1x3x3 : S_.BroadcastsInDim S1x3x3 (![] : Fin 0 → Fin S1x3x3.rank)
  reducesTo_S1x3x3_S_d0_1_2 : S1x3x3.ReducesTo [0, 1, 2] S_
  bcast_S_S1x50000x3 : S_.BroadcastsInDim S1x50000x3 (![] : Fin 0 → Fin S1x50000x3.rank)
  reducesTo_S1x50000x3_S_d0_1_2 : S1x50000x3.ReducesTo [0, 1, 2] S_

variable [Facts]

def fn_part1 {F : FTy → Type} [FloatOps F] (main_arg3 : IVec S1x50000x3 32) (main_v14 : IVec S_ 1) (main_v15 : FVec F S1x3x3 .f32) : IVec S_ 1 :=
  let main_cst : FVec F S_ .f32 := constant S_ .f32 0x7F800000#32
  let main_v16 : FVec F S1x3x3 .f32 := broadcastInDim S1x3x3 ![] bcast_S_S1x3x3 main_cst
  let main_v17 : IVec S1x3x3 1 := cmpf .olt main_v15 main_v16
  let main_c_7 : IVec S_ 1 := constantI S_ 1 1#1
  let main_v18 : IVec S_ 1 := (fun x v => Host.reduce IntOp.andi x v reducesTo_S1x3x3_S_d0_1_2 h_S_) main_v17 main_c_7
  let main_v19 : IVec S_ 1 := andi main_v14 main_v18
  let main_c_8 : IVec S_ 32 := constantI S_ 32 3221225472#32
  let main_v20 : IVec S1x50000x3 32 := broadcastInDim S1x50000x3 ![] bcast_S_S1x50000x3 main_c_8
  let main_v21 : IVec S1x50000x3 1 := cmpi .sge main_arg3 main_v20
  let main_c_9 : IVec S_ 1 := constantI S_ 1 1#1
  let main_v22 : IVec S_ 1 := (fun x v => Host.reduce IntOp.andi x v reducesTo_S1x50000x3_S_d0_1_2 h_S_) main_v21 main_c_9
  let main_v23 : IVec S_ 1 := andi main_v19 main_v22
  let main_c_10 : IVec S_ 32 := constantI S_ 32 1073741824#32
  let main_v24 : IVec S1x50000x3 32 := broadcastInDim S1x50000x3 ![] bcast_S_S1x50000x3 main_c_10
  let main_v25 : IVec S1x50000x3 1 := cmpi .slt main_arg3 main_v24
  let main_c_11 : IVec S_ 1 := constantI S_ 1 1#1
  let main_v26 : IVec S_ 1 := (fun x v => Host.reduce IntOp.andi x v reducesTo_S1x50000x3_S_d0_1_2 h_S_) main_v25 main_c_11
  let main_v27 : IVec S_ 1 := andi main_v23 main_v26
  main_v27

def fn {F : FTy → Type} [FloatOps F] (main_arg0 : FVec F S1x50000x3 .f32) (main_arg1 : FVec F S1x3x3 .f32) (main_arg2 : FVec F S27x3 .f32) (main_arg3 : IVec S1x50000x3 32) (main_arg4 : IVec S2x3200000 32) (main_arg5 : IVec S3200000 32) (main_arg6 : FVec F S_ .f32) : IVec S_ 1 :=
  let main_c : IVec S_ 32 := constantI S_ 32 0#32
  let main_v0 : IVec S2x3200000 32 := broadcastInDim S2x3200000 ![] bcast_S_S2x3200000 main_c
  let main_v1 : IVec S2x3200000 1 := cmpi .sge main_arg4 main_v0
  let main_c_0 : IVec S_ 1 := constantI S_ 1 1#1
  let main_v2 : IVec S_ 1 := (fun x v => Host.reduce IntOp.andi x v reducesTo_S2x3200000_S_d0_1 h_S_) main_v1 main_c_0
  let main_c_1 : IVec S_ 32 := constantI S_ 32 50000#32
  let main_v3 : IVec S2x3200000 32 := broadcastInDim S2x3200000 ![] bcast_S_S2x3200000 main_c_1
  let main_v4 : IVec S2x3200000 1 := cmpi .slt main_arg4 main_v3
  let main_c_2 : IVec S_ 1 := constantI S_ 1 1#1
  let main_v5 : IVec S_ 1 := (fun x v => Host.reduce IntOp.andi x v reducesTo_S2x3200000_S_d0_1 h_S_) main_v4 main_c_2
  let main_v6 : IVec S_ 1 := andi main_v2 main_v5
  let main_c_3 : IVec S_ 32 := constantI S_ 32 0#32
  let main_v7 : IVec S3200000 32 := broadcastInDim S3200000 ![] bcast_S_S3200000 main_c_3
  let main_v8 : IVec S3200000 1 := cmpi .sge main_arg5 main_v7
  let main_c_4 : IVec S_ 1 := constantI S_ 1 1#1
  let main_v9 : IVec S_ 1 := (fun x v => Host.reduce IntOp.andi x v reducesTo_S3200000_S_d0 h_S_) main_v8 main_c_4
  let main_v10 : IVec S_ 1 := andi main_v6 main_v9
  let main_c_5 : IVec S_ 32 := constantI S_ 32 27#32
  let main_v11 : IVec S3200000 32 := broadcastInDim S3200000 ![] bcast_S_S3200000 main_c_5
  let main_v12 : IVec S3200000 1 := cmpi .slt main_arg5 main_v11
  let main_c_6 : IVec S_ 1 := constantI S_ 1 1#1
  let main_v13 : IVec S_ 1 := (fun x v => Host.reduce IntOp.andi x v reducesTo_S3200000_S_d0 h_S_) main_v12 main_c_6
  let main_v14 : IVec S_ 1 := andi main_v10 main_v13
  let main_v15 : FVec F S1x3x3 .f32 := Host.absf main_arg1
  fn_part1 (F := F) main_arg3 main_v14 main_v15
-- ==== Kernel.lean ====
abbrev S1x50000x3 : Shape := ⟨3, ![1, 50000, 3]⟩
abbrev S1x3x3 : Shape := ⟨3, ![1, 3, 3]⟩
abbrev S27x3 : Shape := ⟨2, ![27, 3]⟩
abbrev S2x3200000 : Shape := ⟨2, ![2, 3200000]⟩
abbrev S3200000 : Shape := ⟨1, ![3200000]⟩
abbrev S_ : Shape := ⟨0, ![]⟩
abbrev S3x3 : Shape := ⟨2, ![3, 3]⟩
abbrev S50000x3 : Shape := ⟨2, ![50000, 3]⟩
abbrev S32x3 : Shape := ⟨2, ![32, 3]⟩
abbrev S16 : Shape := ⟨1, ![16]⟩
abbrev S50000x1 : Shape := ⟨2, ![50000, 1]⟩
abbrev S50000 : Shape := ⟨1, ![50000]⟩
abbrev S32x1 : Shape := ⟨2, ![32, 1]⟩
abbrev S32 : Shape := ⟨1, ![32]⟩
abbrev S6400000 : Shape := ⟨1, ![6400000]⟩
abbrev S2000 : Shape := ⟨1, ![2000]⟩

abbrev nBuf : Table → Nat
  | .hbm => 36
  | .local .scVector .vmem => 29
  | _ => 0

abbrev bufTy : (tb : Table) → Fin (nBuf tb) → BufTy
  | .hbm, ⟨0, _⟩ => ⟨S1x50000x3, .f32⟩
  | .hbm, ⟨1, _⟩ => ⟨S1x3x3, .f32⟩
  | .hbm, ⟨2, _⟩ => ⟨S27x3, .f32⟩
  | .hbm, ⟨3, _⟩ => ⟨S1x50000x3, .i32⟩
  | .hbm, ⟨4, _⟩ => ⟨S2x3200000, .i32⟩
  | .hbm, ⟨5, _⟩ => ⟨S3200000, .i32⟩
  | .hbm, ⟨6, _⟩ => ⟨S_, .f32⟩
  | .hbm, ⟨7, _⟩ => ⟨S3x3, .f32⟩
  | .hbm, ⟨8, _⟩ => ⟨S50000x3, .f32⟩
  | .hbm, ⟨9, _⟩ => ⟨S50000x3, .i32⟩
  | .hbm, ⟨10, _⟩ => ⟨S50000x3, .f32⟩
  | .hbm, ⟨11, _⟩ => ⟨S50000x3, .f32⟩
  | .hbm, ⟨12, _⟩ => ⟨S50000x3, .f32⟩
  | .hbm, ⟨13, _⟩ => ⟨S27x3, .f32⟩
  | .hbm, ⟨14, _⟩ => ⟨S_, .i32⟩
  | .hbm, ⟨15, _⟩ => ⟨S_, .f32⟩
  | .hbm, ⟨16, _⟩ => ⟨S32x3, .f32⟩
  | .hbm, ⟨17, _⟩ => ⟨S_, .f32⟩
  | .hbm, ⟨18, _⟩ => ⟨S16, .f32⟩
  | .hbm, ⟨19, _⟩ => ⟨S50000x1, .f32⟩
  | .hbm, ⟨20, _⟩ => ⟨S50000, .f32⟩
  | .hbm, ⟨21, _⟩ => ⟨S50000x1, .f32⟩
  | .hbm, ⟨22, _⟩ => ⟨S50000, .f32⟩
  | .hbm, ⟨23, _⟩ => ⟨S50000x1, .f32⟩
  | .hbm, ⟨24, _⟩ => ⟨S50000, .f32⟩
  | .hbm, ⟨25, _⟩ => ⟨S32x1, .f32⟩
  | .hbm, ⟨26, _⟩ => ⟨S32, .f32⟩
  | .hbm, ⟨27, _⟩ => ⟨S32x1, .f32⟩
  | .hbm, ⟨28, _⟩ => ⟨S32, .f32⟩
  | .hbm, ⟨29, _⟩ => ⟨S32x1, .f32⟩
  | .hbm, ⟨30, _⟩ => ⟨S32, .f32⟩
  | .hbm, ⟨31, _⟩ => ⟨S6400000, .i32⟩
  | .hbm, ⟨32, _⟩ => ⟨S3200000, .f32⟩
  | .hbm, ⟨33, _⟩ => ⟨S6400000, .i32⟩
  | .hbm, ⟨34, _⟩ => ⟨S3200000, .f32⟩
  | .hbm, ⟨35, _⟩ => ⟨S2x3200000, .i32⟩
  | .local .scVector .vmem, ⟨0, _⟩ => ⟨S50000, .f32⟩
  | .local .scVector .vmem, ⟨1, _⟩ => ⟨S50000, .f32⟩
  | .local .scVector .vmem, ⟨2, _⟩ => ⟨S32, .f32⟩
  | .local .scVector .vmem, ⟨3, _⟩ => ⟨S32, .f32⟩
  | .local .scVector .vmem, ⟨4, _⟩ => ⟨S2000, .i32⟩
  | .local .scVector .vmem, ⟨5, _⟩ => ⟨S2000, .i32⟩
  | .local .scVector .vmem, ⟨6, _⟩ => ⟨S2000, .i32⟩
  | .local .scVector .vmem, ⟨7, _⟩ => ⟨S2000, .f32⟩
  | .local .scVector .vmem, ⟨8, _⟩ => ⟨S2000, .i32⟩
  | .local .scVector .vmem, ⟨9, _⟩ => ⟨S2000, .i32⟩
  | .local .scVector .vmem, ⟨10, _⟩ => ⟨S2000, .i32⟩
  | .local .scVector .vmem, ⟨11, _⟩ => ⟨S2000, .f32⟩
  | .local .scVector .vmem, ⟨12, _⟩ => ⟨S50000, .f32⟩
  | .local .scVector .vmem, ⟨13, _⟩ => ⟨S32, .f32⟩
  | .local .scVector .vmem, ⟨14, _⟩ => ⟨S16, .f32⟩
  | .local .scVector .vmem, ⟨15, _⟩ => ⟨S2000, .i32⟩
  | .local .scVector .vmem, ⟨16, _⟩ => ⟨S2000, .i32⟩
  | .local .scVector .vmem, ⟨17, _⟩ => ⟨S2000, .i32⟩
  | .local .scVector .vmem, ⟨18, _⟩ => ⟨S2000, .f32⟩
  | .local .scVector .vmem, ⟨19, _⟩ => ⟨S2000, .f32⟩
  | .local .scVector .vmem, ⟨20, _⟩ => ⟨S2000, .i32⟩
  | .local .scVector .vmem, ⟨21, _⟩ => ⟨S2000, .i32⟩
  | .local .scVector .vmem, ⟨22, _⟩ => ⟨S2000, .i32⟩
  | .local .scVector .vmem, ⟨23, _⟩ => ⟨S2000, .i32⟩
  | .local .scVector .vmem, ⟨24, _⟩ => ⟨S2000, .i32⟩
  | .local .scVector .vmem, ⟨25, _⟩ => ⟨S2000, .f32⟩
  | .local .scVector .vmem, ⟨26, _⟩ => ⟨S2000, .f32⟩
  | .local .scVector .vmem, ⟨27, _⟩ => ⟨S2000, .i32⟩
  | .local .scVector .vmem, ⟨28, _⟩ => ⟨S2000, .i32⟩
  | _, _ => ⟨S1x50000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v25 : Ref sig .tc := ⟨.hbm, 35, rfl⟩
abbrev main_v22_scv : Ref sig .scVector := ⟨.hbm, 31, rfl⟩
abbrev main_arg5_scv : Ref sig .scVector := ⟨.hbm, 5, rfl⟩
abbrev main_v11_scv : Ref sig .scVector := ⟨.hbm, 20, rfl⟩
abbrev main_v13_scv : Ref sig .scVector := ⟨.hbm, 22, rfl⟩
abbrev main_v17_scv : Ref sig .scVector := ⟨.hbm, 26, rfl⟩
abbrev main_v19_scv : Ref sig .scVector := ⟨.hbm, 28, rfl⟩
abbrev main_v23_scv : Ref sig .scVector := ⟨.hbm, 32, rfl⟩
abbrev main_v15_scv : Ref sig .scVector := ⟨.hbm, 24, rfl⟩
abbrev main_v21_scv : Ref sig .scVector := ⟨.hbm, 30, rfl⟩
abbrev main_v9_scv : Ref sig .scVector := ⟨.hbm, 18, rfl⟩
abbrev main_v24_0_scv : Ref sig .scVector := ⟨.hbm, 33, rfl⟩
abbrev main_v24_1_scv : Ref sig .scVector := ⟨.hbm, 34, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc1_scratch0 : Ref sig .scVector := ⟨.vmem, 12, rfl⟩
abbrev cc1_scratch1 : Ref sig .scVector := ⟨.vmem, 13, rfl⟩
abbrev cc1_scratch2 : Ref sig .scVector := ⟨.vmem, 14, rfl⟩
abbrev cc1_scratch3 : Ref sig .scVector := ⟨.vmem, 15, rfl⟩
abbrev cc1_scratch4 : Ref sig .scVector := ⟨.vmem, 16, rfl⟩
abbrev cc1_scratch5 : Ref sig .scVector := ⟨.vmem, 17, rfl⟩
abbrev cc1_scratch6 : Ref sig .scVector := ⟨.vmem, 18, rfl⟩
abbrev cc1_scratch7 : Ref sig .scVector := ⟨.vmem, 19, rfl⟩
abbrev cc1_scratch8 : Ref sig .scVector := ⟨.vmem, 20, rfl⟩
abbrev cc1_scratch9 : Ref sig .scVector := ⟨.vmem, 21, rfl⟩
abbrev cc1_scratch10 : Ref sig .scVector := ⟨.vmem, 22, rfl⟩
abbrev cc1_scratch11 : Ref sig .scVector := ⟨.vmem, 23, rfl⟩
abbrev cc1_scratch12 : Ref sig .scVector := ⟨.vmem, 24, rfl⟩
abbrev cc1_scratch13 : Ref sig .scVector := ⟨.vmem, 25, rfl⟩
abbrev cc1_scratch14 : Ref sig .scVector := ⟨.vmem, 26, rfl⟩
abbrev cc1_scratch15 : Ref sig .scVector := ⟨.vmem, 27, rfl⟩
abbrev cc1_scratch16 : Ref sig .scVector := ⟨.vmem, 28, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  ![v2.toNat]
def k0_off2 (i : grid0.Coords) : Fin 1 → Nat :=
  let c3200000_i32 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let v5 : BitVec 32 := Scalar.addi c3200000_i32 v2
  ![v5.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  ![v2.toNat]
@[reducible] def k0_t1_loop : Scf.Loop 32 :=
  let c0_i32_0 : BitVec 32 := 0#32
  let c25_i32 : BitVec 32 := 25#32
  let v10 : BitVec 32 := Scalar.addi c0_i32_0 c25_i32
  let c1_i32 : BitVec 32 := 1#32
  ⟨c0_i32_0, v10, c1_i32⟩
def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_12 : BitVec 32 := 2#32
  let c0_i32_0 : BitVec 32 := 0#32
  let c1_i32 : BitVec 32 := 1#32
  let arg25 : BitVec 32 := Scf.iv c0_i32_0 c1_i32 k0_t1
  let v21 : BitVec 32 := Scalar.muli c2_i32_12 arg25
  let c2000_i32 : BitVec 32 := 2000#32
  let v22 : BitVec 32 := Scalar.muli v21 c2000_i32
  let v23 : BitVec 32 := Scalar.addi v2 v22
  let c4000_i32 : BitVec 32 := 4000#32
  let v24 : BitVec 32 := Scalar.addi v23 c4000_i32
  let c3198000_i32 : BitVec 32 := 3198000#32
  let v25 : BitVec 32 := Scalar.minsi v24 c3198000_i32
  v25
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_12 : BitVec 32 := 2#32
  let c0_i32_0 : BitVec 32 := 0#32
  let c1_i32 : BitVec 32 := 1#32
  let arg25 : BitVec 32 := Scf.iv c0_i32_0 c1_i32 k0_t1
  let v21 : BitVec 32 := Scalar.muli c2_i32_12 arg25
  let c2000_i32 : BitVec 32 := 2000#32
  let v22 : BitVec 32 := Scalar.muli v21 c2000_i32
  let v23 : BitVec 32 := Scalar.addi v2 v22
  let c2000_i32_13 : BitVec 32 := 2000#32
  let v27 : BitVec 32 := Scalar.addi v23 c2000_i32_13
  ![v27.toNat]
def k0_off5 (i : grid0.Coords) (k0_t1 : Fin k0_t1_loop.trips) : Fin 1 → Nat :=
  let c3200000_i32_14 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_12 : BitVec 32 := 2#32
  let c0_i32_0 : BitVec 32 := 0#32
  let c1_i32 : BitVec 32 := 1#32
  let arg25 : BitVec 32 := Scf.iv c0_i32_0 c1_i32 k0_t1
  let v21 : BitVec 32 := Scalar.muli c2_i32_12 arg25
  let c2000_i32 : BitVec 32 := 2000#32
  let v22 : BitVec 32 := Scalar.muli v21 c2000_i32
  let v23 : BitVec 32 := Scalar.addi v2 v22
  let c2000_i32_13 : BitVec 32 := 2000#32
  let v27 : BitVec 32 := Scalar.addi v23 c2000_i32_13
  let v30 : BitVec 32 := Scalar.addi c3200000_i32_14 v27
  ![v30.toNat]
def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_12 : BitVec 32 := 2#32
  let c0_i32_0 : BitVec 32 := 0#32
  let c1_i32 : BitVec 32 := 1#32
  let arg25 : BitVec 32 := Scf.iv c0_i32_0 c1_i32 k0_t1
  let v21 : BitVec 32 := Scalar.muli c2_i32_12 arg25
  let c2000_i32 : BitVec 32 := 2000#32
  let v22 : BitVec 32 := Scalar.muli v21 c2000_i32
  let v23 : BitVec 32 := Scalar.addi v2 v22
  let c2000_i32_13 : BitVec 32 := 2000#32
  let v27 : BitVec 32 := Scalar.addi v23 c2000_i32_13
  ![v27.toNat]
@[reducible] def k0_t2_loop : Scf.Loop 32 :=
  let c0_i32_23 : BitVec 32 := 0#32
  let c125_i32 : BitVec 32 := 125#32
  let v44 : BitVec 32 := Scalar.addi c0_i32_23 c125_i32
  let c1_i32_24 : BitVec 32 := 1#32
  ⟨c0_i32_23, v44, c1_i32_24⟩
def k0_off7 (k0_t2 : Fin k0_t2_loop.trips) : Fin 1 → Nat :=
  let c0_i32_40 : BitVec 32 := 0#32
  let c0_i32_23 : BitVec 32 := 0#32
  let c1_i32_24 : BitVec 32 := 1#32
  let arg26 : BitVec 32 := Scf.iv c0_i32_23 c1_i32_24 k0_t2
  let c16_i32 : BitVec 32 := 16#32
  let v67 : BitVec 32 := Scalar.muli arg26 c16_i32
  let v68 : BitVec 32 := Scalar.addi c0_i32_40 v67
  let v69 : Index := Scalar.indexCast v68
  ![v69.toNat]

def k0_chk1 (v72 : IVec S16 32) : Prop :=
  (∀ a x, ((![v72] : Fin 1 → IVec S16 32) a x).toNat < S50000.size a) ∧
  (∀ a x, ((![v72] : Fin 1 → IVec S16 32) a x).toNat < S50000.size a)
theorem k0_idx1_inb : ∀ (v72 : IVec S16 32) (k0_hw1 : k0_chk1 v72), ∀ a x, ((![v72] : Fin 1 → IVec S16 32) a x).toNat < S50000.size a := fun v72 k0_hw1 => k0_hw1.1
theorem k0_idx3_inb : ∀ (v72 : IVec S16 32) (k0_hw1 : k0_chk1 v72), ∀ a x, ((![v72] : Fin 1 → IVec S16 32) a x).toNat < S50000.size a := fun v72 k0_hw1 => k0_hw1.2

def k0_chk2 (v70 : IVec S16 32) : Prop :=
  (∀ a x, ((![v70] : Fin 1 → IVec S16 32) a x).toNat < S50000.size a) ∧
  (∀ a x, ((![v70] : Fin 1 → IVec S16 32) a x).toNat < S50000.size a)
theorem k0_idx2_inb : ∀ (v70 : IVec S16 32) (k0_hw2 : k0_chk2 v70), ∀ a x, ((![v70] : Fin 1 → IVec S16 32) a x).toNat < S50000.size a := fun v70 k0_hw2 => k0_hw2.1
theorem k0_idx4_inb : ∀ (v70 : IVec S16 32) (k0_hw2 : k0_chk2 v70), ∀ a x, ((![v70] : Fin 1 → IVec S16 32) a x).toNat < S50000.size a := fun v70 k0_hw2 => k0_hw2.2

def k0_chk3 (v74 : IVec S16 32) : Prop :=
  (∀ a x, ((![v74] : Fin 1 → IVec S16 32) a x).toNat < S32.size a) ∧
  (∀ a x, ((![v74] : Fin 1 → IVec S16 32) a x).toNat < S32.size a)
theorem k0_idx5_inb : ∀ (v74 : IVec S16 32) (k0_hw3 : k0_chk3 v74), ∀ a x, ((![v74] : Fin 1 → IVec S16 32) a x).toNat < S32.size a := fun v74 k0_hw3 => k0_hw3.1
theorem k0_idx6_inb : ∀ (v74 : IVec S16 32) (k0_hw3 : k0_chk3 v74), ∀ a x, ((![v74] : Fin 1 → IVec S16 32) a x).toNat < S32.size a := fun v74 k0_hw3 => k0_hw3.2
def k0_off8 (k0_t2 : Fin k0_t2_loop.trips) : Fin 1 → Nat :=
  let c0_i32_40 : BitVec 32 := 0#32
  let c0_i32_23 : BitVec 32 := 0#32
  let c1_i32_24 : BitVec 32 := 1#32
  let arg26 : BitVec 32 := Scf.iv c0_i32_23 c1_i32_24 k0_t2
  let c16_i32 : BitVec 32 := 16#32
  let v67 : BitVec 32 := Scalar.muli arg26 c16_i32
  let v68 : BitVec 32 := Scalar.addi c0_i32_40 v67
  let v88 : Index := Scalar.indexCast v68
  ![v88.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_12 : BitVec 32 := 2#32
  let c0_i32_0 : BitVec 32 := 0#32
  let c1_i32 : BitVec 32 := 1#32
  let arg25 : BitVec 32 := Scf.iv c0_i32_0 c1_i32 k0_t1
  let v21 : BitVec 32 := Scalar.muli c2_i32_12 arg25
  let c2000_i32 : BitVec 32 := 2000#32
  let v22 : BitVec 32 := Scalar.muli v21 c2000_i32
  let v23 : BitVec 32 := Scalar.addi v2 v22
  ![v23.toNat]
def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_12 : BitVec 32 := 2#32
  let c0_i32_0 : BitVec 32 := 0#32
  let c1_i32 : BitVec 32 := 1#32
  let arg25 : BitVec 32 := Scf.iv c0_i32_0 c1_i32 k0_t1
  let v21 : BitVec 32 := Scalar.muli c2_i32_12 arg25
  let c2000_i32 : BitVec 32 := 2000#32
  let v22 : BitVec 32 := Scalar.muli v21 c2000_i32
  let v23 : BitVec 32 := Scalar.addi v2 v22
  let c4000_i32 : BitVec 32 := 4000#32
  let v24 : BitVec 32 := Scalar.addi v23 c4000_i32
  let c3198000_i32 : BitVec 32 := 3198000#32
  let v25 : BitVec 32 := Scalar.minsi v24 c3198000_i32
  let v26 : BitVec 32 := v25
  ![v26.toNat]
def k0_off11 (i : grid0.Coords) (k0_t1 : Fin k0_t1_loop.trips) : Fin 1 → Nat :=
  let c3200000_i32_26 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_12 : BitVec 32 := 2#32
  let c0_i32_0 : BitVec 32 := 0#32
  let c1_i32 : BitVec 32 := 1#32
  let arg25 : BitVec 32 := Scf.iv c0_i32_0 c1_i32 k0_t1
  let v21 : BitVec 32 := Scalar.muli c2_i32_12 arg25
  let c2000_i32 : BitVec 32 := 2000#32
  let v22 : BitVec 32 := Scalar.muli v21 c2000_i32
  let v23 : BitVec 32 := Scalar.addi v2 v22
  let c4000_i32 : BitVec 32 := 4000#32
  let v24 : BitVec 32 := Scalar.addi v23 c4000_i32
  let c3198000_i32 : BitVec 32 := 3198000#32
  let v25 : BitVec 32 := Scalar.minsi v24 c3198000_i32
  let v26 : BitVec 32 := v25
  let v49 : BitVec 32 := Scalar.addi c3200000_i32_26 v26
  ![v49.toNat]
def k0_off12 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_12 : BitVec 32 := 2#32
  let c0_i32_0 : BitVec 32 := 0#32
  let c1_i32 : BitVec 32 := 1#32
  let arg25 : BitVec 32 := Scf.iv c0_i32_0 c1_i32 k0_t1
  let v21 : BitVec 32 := Scalar.muli c2_i32_12 arg25
  let c2000_i32 : BitVec 32 := 2000#32
  let v22 : BitVec 32 := Scalar.muli v21 c2000_i32
  let v23 : BitVec 32 := Scalar.addi v2 v22
  let c4000_i32 : BitVec 32 := 4000#32
  let v24 : BitVec 32 := Scalar.addi v23 c4000_i32
  let c3198000_i32 : BitVec 32 := 3198000#32
  let v25 : BitVec 32 := Scalar.minsi v24 c3198000_i32
  let v26 : BitVec 32 := v25
  ![v26.toNat]
@[reducible] def k0_t3_loop : Scf.Loop 32 :=
  let c0_i32_35 : BitVec 32 := 0#32
  let c125_i32_36 : BitVec 32 := 125#32
  let v63 : BitVec 32 := Scalar.addi c0_i32_35 c125_i32_36
  let c1_i32_37 : BitVec 32 := 1#32
  ⟨c0_i32_35, v63, c1_i32_37⟩
def k0_off13 (k0_t3 : Fin k0_t3_loop.trips) : Fin 1 → Nat :=
  let c0_i32_40 : BitVec 32 := 0#32
  let c0_i32_35 : BitVec 32 := 0#32
  let c1_i32_37 : BitVec 32 := 1#32
  let arg26 : BitVec 32 := Scf.iv c0_i32_35 c1_i32_37 k0_t3
  let c16_i32 : BitVec 32 := 16#32
  let v67 : BitVec 32 := Scalar.muli arg26 c16_i32
  let v68 : BitVec 32 := Scalar.addi c0_i32_40 v67
  let v69 : Index := Scalar.indexCast v68
  ![v69.toNat]

def k0_chk4 (v72 : IVec S16 32) : Prop :=
  (∀ a x, ((![v72] : Fin 1 → IVec S16 32) a x).toNat < S50000.size a) ∧
  (∀ a x, ((![v72] : Fin 1 → IVec S16 32) a x).toNat < S50000.size a)
theorem k0_idx7_inb : ∀ (v72 : IVec S16 32) (k0_hw4 : k0_chk4 v72), ∀ a x, ((![v72] : Fin 1 → IVec S16 32) a x).toNat < S50000.size a := fun v72 k0_hw4 => k0_hw4.1
theorem k0_idx9_inb : ∀ (v72 : IVec S16 32) (k0_hw4 : k0_chk4 v72), ∀ a x, ((![v72] : Fin 1 → IVec S16 32) a x).toNat < S50000.size a := fun v72 k0_hw4 => k0_hw4.2

def k0_chk5 (v70 : IVec S16 32) : Prop :=
  (∀ a x, ((![v70] : Fin 1 → IVec S16 32) a x).toNat < S50000.size a) ∧
  (∀ a x, ((![v70] : Fin 1 → IVec S16 32) a x).toNat < S50000.size a)
theorem k0_idx8_inb : ∀ (v70 : IVec S16 32) (k0_hw5 : k0_chk5 v70), ∀ a x, ((![v70] : Fin 1 → IVec S16 32) a x).toNat < S50000.size a := fun v70 k0_hw5 => k0_hw5.1
theorem k0_idx10_inb : ∀ (v70 : IVec S16 32) (k0_hw5 : k0_chk5 v70), ∀ a x, ((![v70] : Fin 1 → IVec S16 32) a x).toNat < S50000.size a := fun v70 k0_hw5 => k0_hw5.2

def k0_chk6 (v74 : IVec S16 32) : Prop :=
  (∀ a x, ((![v74] : Fin 1 → IVec S16 32) a x).toNat < S32.size a) ∧
  (∀ a x, ((![v74] : Fin 1 → IVec S16 32) a x).toNat < S32.size a)
theorem k0_idx11_inb : ∀ (v74 : IVec S16 32) (k0_hw6 : k0_chk6 v74), ∀ a x, ((![v74] : Fin 1 → IVec S16 32) a x).toNat < S32.size a := fun v74 k0_hw6 => k0_hw6.1
theorem k0_idx12_inb : ∀ (v74 : IVec S16 32) (k0_hw6 : k0_chk6 v74), ∀ a x, ((![v74] : Fin 1 → IVec S16 32) a x).toNat < S32.size a := fun v74 k0_hw6 => k0_hw6.2
def k0_off14 (k0_t3 : Fin k0_t3_loop.trips) : Fin 1 → Nat :=
  let c0_i32_40 : BitVec 32 := 0#32
  let c0_i32_35 : BitVec 32 := 0#32
  let c1_i32_37 : BitVec 32 := 1#32
  let arg26 : BitVec 32 := Scf.iv c0_i32_35 c1_i32_37 k0_t3
  let c16_i32 : BitVec 32 := 16#32
  let v67 : BitVec 32 := Scalar.muli arg26 c16_i32
  let v68 : BitVec 32 := Scalar.addi c0_i32_40 v67
  let v88 : Index := Scalar.indexCast v68
  ![v88.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  ![v2.toNat]
def k1_off2 (i : grid1.Coords) : Fin 1 → Nat :=
  let c3200000_i32 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let v7 : BitVec 32 := Scalar.addi c3200000_i32 v2
  ![v7.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  ![v2.toNat]
@[reducible] def k1_t1_loop : Scf.Loop 32 :=
  let c0_i32_0 : BitVec 32 := 0#32
  let c25_i32 : BitVec 32 := 25#32
  let v14 : BitVec 32 := Scalar.addi c0_i32_0 c25_i32
  let c1_i32 : BitVec 32 := 1#32
  ⟨c0_i32_0, v14, c1_i32⟩
def k1_mult1 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  let c4000_i32 : BitVec 32 := 4000#32
  let v38 : BitVec 32 := Scalar.addi v37 c4000_i32
  let c3198000_i32 : BitVec 32 := 3198000#32
  let v39 : BitVec 32 := Scalar.minsi v38 c3198000_i32
  v39
def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  let c2000_i32_23 : BitVec 32 := 2000#32
  let v41 : BitVec 32 := Scalar.addi v37 c2000_i32_23
  ![v41.toNat]
def k1_off5 (i : grid1.Coords) (k1_t1 : Fin k1_t1_loop.trips) : Fin 1 → Nat :=
  let c3200000_i32_24 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  let c2000_i32_23 : BitVec 32 := 2000#32
  let v41 : BitVec 32 := Scalar.addi v37 c2000_i32_23
  let v44 : BitVec 32 := Scalar.addi c3200000_i32_24 v41
  ![v44.toNat]
def k1_off6 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  let c2000_i32_23 : BitVec 32 := 2000#32
  let v41 : BitVec 32 := Scalar.addi v37 c2000_i32_23
  ![v41.toNat]
@[reducible] def k1_t2_loop : Scf.Loop 32 :=
  let c0_i32_35 : BitVec 32 := 0#32
  let c125_i32 : BitVec 32 := 125#32
  let v62 : BitVec 32 := Scalar.addi c0_i32_35 c125_i32
  let c1_i32_36 : BitVec 32 := 1#32
  ⟨c0_i32_35, v62, c1_i32_36⟩
def k1_off7 (k1_t2 : Fin k1_t2_loop.trips) : Fin 1 → Nat :=
  let c0_i32_56 : BitVec 32 := 0#32
  let c0_i32_35 : BitVec 32 := 0#32
  let c1_i32_36 : BitVec 32 := 1#32
  let arg32 : BitVec 32 := Scf.iv c0_i32_35 c1_i32_36 k1_t2
  let c16_i32 : BitVec 32 := 16#32
  let v99 : BitVec 32 := Scalar.muli arg32 c16_i32
  let v100 : BitVec 32 := Scalar.addi c0_i32_56 v99
  let v101 : Index := Scalar.indexCast v100
  ![v101.toNat]

def k1_chk1 (v104 : IVec S16 32) : Prop :=
  (∀ a x, ((![v104] : Fin 1 → IVec S16 32) a x).toNat < S50000.size a)
theorem k1_idx1_inb : ∀ (v104 : IVec S16 32) (k1_hw1 : k1_chk1 v104), ∀ a x, ((![v104] : Fin 1 → IVec S16 32) a x).toNat < S50000.size a := fun v104 k1_hw1 => k1_hw1

def k1_chk2 (v102 : IVec S16 32) : Prop :=
  (∀ a x, ((![v102] : Fin 1 → IVec S16 32) a x).toNat < S50000.size a)
theorem k1_idx2_inb : ∀ (v102 : IVec S16 32) (k1_hw2 : k1_chk2 v102), ∀ a x, ((![v102] : Fin 1 → IVec S16 32) a x).toNat < S50000.size a := fun v102 k1_hw2 => k1_hw2

def k1_chk3 (v106 : IVec S16 32) : Prop :=
  (∀ a x, ((![v106] : Fin 1 → IVec S16 32) a x).toNat < S32.size a)
theorem k1_idx3_inb : ∀ (v106 : IVec S16 32) (k1_hw3 : k1_chk3 v106), ∀ a x, ((![v106] : Fin 1 → IVec S16 32) a x).toNat < S32.size a := fun v106 k1_hw3 => k1_hw3
def k1_off8 (k1_t2 : Fin k1_t2_loop.trips) : Fin 1 → Nat :=
  let c0_i32_56 : BitVec 32 := 0#32
  let c0_i32_35 : BitVec 32 := 0#32
  let c1_i32_36 : BitVec 32 := 1#32
  let arg32 : BitVec 32 := Scf.iv c0_i32_35 c1_i32_36 k1_t2
  let c16_i32 : BitVec 32 := 16#32
  let v99 : BitVec 32 := Scalar.muli arg32 c16_i32
  let v100 : BitVec 32 := Scalar.addi c0_i32_56 v99
  let v117 : Index := Scalar.indexCast v100
  ![v117.toNat]
def k1_off9 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  ![v37.toNat]
def k1_off10 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  ![v37.toNat]
def k1_off11 (i : grid1.Coords) (k1_t1 : Fin k1_t1_loop.trips) : Fin 1 → Nat :=
  let c3200000_i32_38 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  let v67 : BitVec 32 := Scalar.addi c3200000_i32_38 v37
  ![v67.toNat]
def k1_off12 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  let c4000_i32 : BitVec 32 := 4000#32
  let v38 : BitVec 32 := Scalar.addi v37 c4000_i32
  let c3198000_i32 : BitVec 32 := 3198000#32
  let v39 : BitVec 32 := Scalar.minsi v38 c3198000_i32
  let v40 : BitVec 32 := v39
  ![v40.toNat]
def k1_off13 (i : grid1.Coords) (k1_t1 : Fin k1_t1_loop.trips) : Fin 1 → Nat :=
  let c3200000_i32_39 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  let c4000_i32 : BitVec 32 := 4000#32
  let v38 : BitVec 32 := Scalar.addi v37 c4000_i32
  let c3198000_i32 : BitVec 32 := 3198000#32
  let v39 : BitVec 32 := Scalar.minsi v38 c3198000_i32
  let v40 : BitVec 32 := v39
  let v72 : BitVec 32 := Scalar.addi c3200000_i32_39 v40
  ![v72.toNat]
def k1_off14 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c2_i32_22 : BitVec 32 := 2#32
  let c0_i32_0 : BitVec 32 := 0#32
  let c1_i32 : BitVec 32 := 1#32
  let arg31 : BitVec 32 := Scf.iv c0_i32_0 c1_i32 k1_t1
  let v35 : BitVec 32 := Scalar.muli c2_i32_22 arg31
  let c2000_i32 : BitVec 32 := 2000#32
  let v36 : BitVec 32 := Scalar.muli v35 c2000_i32
  let v37 : BitVec 32 := Scalar.addi v2 v36
  let c4000_i32 : BitVec 32 := 4000#32
  let v38 : BitVec 32 := Scalar.addi v37 c4000_i32
  let c3198000_i32 : BitVec 32 := 3198000#32
  let v39 : BitVec 32 := Scalar.minsi v38 c3198000_i32
  let v40 : BitVec 32 := v39
  ![v40.toNat]
@[reducible] def k1_t3_loop : Scf.Loop 32 :=
  let c0_i32_50 : BitVec 32 := 0#32
  let c125_i32_51 : BitVec 32 := 125#32
  let v90 : BitVec 32 := Scalar.addi c0_i32_50 c125_i32_51
  let c1_i32_52 : BitVec 32 := 1#32
  ⟨c0_i32_50, v90, c1_i32_52⟩
def k1_off15 (k1_t3 : Fin k1_t3_loop.trips) : Fin 1 → Nat :=
  let c0_i32_56 : BitVec 32 := 0#32
  let c0_i32_50 : BitVec 32 := 0#32
  let c1_i32_52 : BitVec 32 := 1#32
  let arg32 : BitVec 32 := Scf.iv c0_i32_50 c1_i32_52 k1_t3
  let c16_i32 : BitVec 32 := 16#32
  let v99 : BitVec 32 := Scalar.muli arg32 c16_i32
  let v100 : BitVec 32 := Scalar.addi c0_i32_56 v99
  let v101 : Index := Scalar.indexCast v100
  ![v101.toNat]

def k1_chk4 (v104 : IVec S16 32) : Prop :=
  (∀ a x, ((![v104] : Fin 1 → IVec S16 32) a x).toNat < S50000.size a)
theorem k1_idx4_inb : ∀ (v104 : IVec S16 32) (k1_hw4 : k1_chk4 v104), ∀ a x, ((![v104] : Fin 1 → IVec S16 32) a x).toNat < S50000.size a := fun v104 k1_hw4 => k1_hw4

def k1_chk5 (v102 : IVec S16 32) : Prop :=
  (∀ a x, ((![v102] : Fin 1 → IVec S16 32) a x).toNat < S50000.size a)
theorem k1_idx5_inb : ∀ (v102 : IVec S16 32) (k1_hw5 : k1_chk5 v102), ∀ a x, ((![v102] : Fin 1 → IVec S16 32) a x).toNat < S50000.size a := fun v102 k1_hw5 => k1_hw5

def k1_chk6 (v106 : IVec S16 32) : Prop :=
  (∀ a x, ((![v106] : Fin 1 → IVec S16 32) a x).toNat < S32.size a)
theorem k1_idx6_inb : ∀ (v106 : IVec S16 32) (k1_hw6 : k1_chk6 v106), ∀ a x, ((![v106] : Fin 1 → IVec S16 32) a x).toNat < S32.size a := fun v106 k1_hw6 => k1_hw6
def k1_off16 (k1_t3 : Fin k1_t3_loop.trips) : Fin 1 → Nat :=
  let c0_i32_56 : BitVec 32 := 0#32
  let c0_i32_50 : BitVec 32 := 0#32
  let c1_i32_52 : BitVec 32 := 1#32
  let arg32 : BitVec 32 := Scf.iv c0_i32_50 c1_i32_52 k1_t3
  let c16_i32 : BitVec 32 := 16#32
  let v99 : BitVec 32 := Scalar.muli arg32 c16_i32
  let v100 : BitVec 32 := Scalar.addi c0_i32_56 v99
  let v117 : Index := Scalar.indexCast v100
  ![v117.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1x50000x3 : Shape := ⟨3, ![1, 50000, 3]⟩
abbrev S1x3x3 : Shape := ⟨3, ![1, 3, 3]⟩
abbrev S27x3 : Shape := ⟨2, ![27, 3]⟩
abbrev S2x3200000 : Shape := ⟨2, ![2, 3200000]⟩
abbrev S3200000 : Shape := ⟨1, ![3200000]⟩
abbrev S_ : Shape := ⟨0, ![]⟩
abbrev S1x3200000 : Shape := ⟨2, ![1, 3200000]⟩
abbrev S50000x3 : Shape := ⟨2, ![50000, 3]⟩
abbrev S3200000x1 : Shape := ⟨2, ![3200000, 1]⟩
abbrev S1 : Shape := ⟨1, ![1]⟩
abbrev S1x1 : Shape := ⟨2, ![1, 1]⟩
abbrev S3200000x3 : Shape := ⟨2, ![3200000, 3]⟩
abbrev S3x3 : Shape := ⟨2, ![3, 3]⟩

abbrev nBuf : Space → Nat
  | .hbm => 149
  | .vmem => 0
  | .smem => 0
  | _ => 0

abbrev hbmTy0_0 (i : Nat) : BufTy := match i % 128 with
  | 0 => ⟨S1x50000x3, .f32⟩
  | 1 => ⟨S1x3x3, .f32⟩
  | 2 => ⟨S27x3, .f32⟩
  | 3 => ⟨S1x50000x3, .i32⟩
  | 4 => ⟨S2x3200000, .i32⟩
  | 5 => ⟨S3200000, .i32⟩
  | 6 => ⟨S_, .f32⟩
  | 7 => ⟨S1x3200000, .i32⟩
  | 8 => ⟨S3200000, .i32⟩
  | 9 => ⟨S1x3200000, .i32⟩
  | 10 => ⟨S3200000, .i32⟩
  | 11 => ⟨S50000x3, .i32⟩
  | 12 => ⟨S_, .i32⟩
  | 13 => ⟨S3200000, .i32⟩
  | 14 => ⟨S3200000, .i1⟩
  | 15 => ⟨S_, .i32⟩
  | 16 => ⟨S3200000, .i32⟩
  | 17 => ⟨S3200000, .i32⟩
  | 18 => ⟨S3200000, .i32⟩
  | 19 => ⟨S3200000x1, .i32⟩
  | 20 => ⟨S1, .i32⟩
  | 21 => ⟨S_, .i32⟩
  | 22 => ⟨S3200000x1, .i32⟩
  | 23 => ⟨S3200000x1, .i1⟩
  | 24 => ⟨S1x1, .i32⟩
  | 25 => ⟨S3200000x1, .i32⟩
  | 26 => ⟨S3200000x1, .i1⟩
  | 27 => ⟨S3200000x1, .i1⟩
  | 28 => ⟨S_, .i1⟩
  | 29 => ⟨S3200000, .i1⟩
  | 30 => ⟨S3200000x3, .i32⟩
  | 31 => ⟨S3200000x3, .i1⟩
  | 32 => ⟨S_, .i32⟩
  | 33 => ⟨S3200000x3, .i32⟩
  | 34 => ⟨S3200000x3, .i32⟩
  | 35 => ⟨S50000x3, .i32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S1, .i32⟩
  | 45 => ⟨S_, .i32⟩
  | 46 => ⟨S3200000x1, .i32⟩
  | 47 => ⟨S3200000x1, .i1⟩
  | 48 => ⟨S1x1, .i32⟩
  | 49 => ⟨S3200000x1, .i32⟩
  | 50 => ⟨S3200000x1, .i1⟩
  | 51 => ⟨S3200000x1, .i1⟩
  | 52 => ⟨S_, .i1⟩
  | 53 => ⟨S3200000, .i1⟩
  | 54 => ⟨S3200000x3, .i32⟩
  | 55 => ⟨S3200000x3, .i1⟩
  | 56 => ⟨S_, .i32⟩
  | 57 => ⟨S3200000x3, .i32⟩
  | 58 => ⟨S3200000x3, .i32⟩
  | 59 => ⟨S3200000x3, .i32⟩
  | 60 => ⟨S3200000x3, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S1, .i32⟩
  | 70 => ⟨S_, .i32⟩
  | 71 => ⟨S3200000x1, .i32⟩
  | 72 => ⟨S3200000x1, .i1⟩
  | 73 => ⟨S1x1, .i32⟩
  | 74 => ⟨S3200000x1, .i32⟩
  | 75 => ⟨S3200000x1, .i1⟩
  | 76 => ⟨S3200000x1, .i1⟩
  | 77 => ⟨S_, .i1⟩
  | 78 => ⟨S3200000, .i1⟩
  | 79 => ⟨S3200000x3, .f32⟩
  | 80 => ⟨S3200000x3, .i1⟩
  | 81 => ⟨S_, .f32⟩
  | 82 => ⟨S3200000x3, .f32⟩
  | 83 => ⟨S3200000x3, .f32⟩
  | 84 => ⟨S3200000x3, .f32⟩
  | 85 => ⟨S3x3, .f32⟩
  | 86 => ⟨S3200000x3, .f32⟩
  | 87 => ⟨S50000x3, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S1, .i32⟩
  | 97 => ⟨S_, .i32⟩
  | 98 => ⟨S3200000x1, .i32⟩
  | 99 => ⟨S3200000x1, .i1⟩
  | 100 => ⟨S1x1, .i32⟩
  | 101 => ⟨S3200000x1, .i32⟩
  | 102 => ⟨S3200000x1, .i1⟩
  | 103 => ⟨S3200000x1, .i1⟩
  | 104 => ⟨S_, .i1⟩
  | 105 => ⟨S3200000, .i1⟩
  | 106 => ⟨S3200000x3, .f32⟩
  | 107 => ⟨S3200000x3, .i1⟩
  | 108 => ⟨S_, .f32⟩
  | 109 => ⟨S3200000x3, .f32⟩
  | 110 => ⟨S3200000x3, .f32⟩
  | 111 => ⟨S50000x3, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S1, .i32⟩
  | 121 => ⟨S_, .i32⟩
  | 122 => ⟨S3200000x1, .i32⟩
  | 123 => ⟨S3200000x1, .i1⟩
  | 124 => ⟨S1x1, .i32⟩
  | 125 => ⟨S3200000x1, .i32⟩
  | 126 => ⟨S3200000x1, .i1⟩
  | 127 => ⟨S3200000x1, .i1⟩
  | _ => ⟨S1x50000x3, .f32⟩

abbrev hbmTy0_1 (i : Nat) : BufTy := match i % 128 with
  | 0 => ⟨S_, .i1⟩
  | 1 => ⟨S3200000, .i1⟩
  | 2 => ⟨S3200000x3, .f32⟩
  | 3 => ⟨S3200000x3, .i1⟩
  | 4 => ⟨S_, .f32⟩
  | 5 => ⟨S3200000x3, .f32⟩
  | 6 => ⟨S3200000x3, .f32⟩
  | 7 => ⟨S3200000x3, .f32⟩
  | 8 => ⟨S3200000x3, .f32⟩
  | 9 => ⟨S3200000x3, .f32⟩
  | 10 => ⟨S_, .f32⟩
  | 11 => ⟨S3200000, .f32⟩
  | 12 => ⟨S_, .f32⟩
  | 13 => ⟨S3200000, .f32⟩
  | 14 => ⟨S3200000, .i1⟩
  | 15 => ⟨S1x3200000, .i1⟩
  | 16 => ⟨S_, .i32⟩
  | 17 => ⟨S_, .i32⟩
  | 18 => ⟨S2x3200000, .i1⟩
  | 19 => ⟨S2x3200000, .i32⟩
  | 20 => ⟨S2x3200000, .i32⟩
  | _ => ⟨S1x50000x3, .f32⟩

abbrev hbmTy (i : Nat) : BufTy := match i / 128 with
  | 0 => hbmTy0_0 i
  | 1 => hbmTy0_1 i
  | _ => ⟨S1x50000x3, .f32⟩

abbrev bufTy : (tb : Table) → Fin (tcTables nBuf tb) → BufTy
  | .hbm, ⟨i, _⟩ => hbmTy i
  | _, _ => ⟨S1x50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_4 : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_c_4 : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v15 : Ref sig .tc := ⟨.hbm, 110, rfl⟩
abbrev main_v16 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_call4_cst : Ref sig .tc := ⟨.hbm, 132, rfl⟩
abbrev main_call4_v15 : Ref sig .tc := ⟨.hbm, 133, rfl⟩
abbrev main_v17 : Ref sig .tc := ⟨.hbm, 134, rfl⟩
abbrev main_v18 : Ref sig .tc := ⟨.hbm, 135, rfl⟩
abbrev main_v19 : Ref sig .tc := ⟨.hbm, 136, rfl⟩
abbrev main_v20 : Ref sig .tc := ⟨.hbm, 137, rfl⟩
abbrev main_cst : Ref sig .tc := ⟨.hbm, 138, rfl⟩
abbrev main_v21 : Ref sig .tc := ⟨.hbm, 139, rfl⟩
abbrev main_v22 : Ref sig .tc := ⟨.hbm, 140, rfl⟩
abbrev main_v23 : Ref sig .tc := ⟨.hbm, 141, rfl⟩
abbrev main_v24 : Ref sig .tc := ⟨.hbm, 142, rfl⟩
abbrev main_v25 : Ref sig .tc := ⟨.hbm, 143, rfl⟩
abbrev main_c : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v26 : Ref sig .tc := ⟨.hbm, 148, rfl⟩

abbrev nD : Nat := 1
abbrev τ : Topo := Topo.v7x

variable {F : FTy → Type} [FloatOps F]
-- ==== Proof.Pre.lean ====
module

public import proofs.«01_k».proof.Defs
public import Idealize.ShloMosaic.Lib.ReduceAll
public import Idealize.ShloMosaic.Lib.Affine
public import proofs.«01_k».proof.Proof.Gen.Pre_in_range
public import proofs.«01_k».proof.Proof.Gen.Pre_in_range_finite

@[expose] public section

noncomputable section

/-! What the two preconditions say of the arrays: each one's printed program ends in a conjunction of "for all" reductions,
    and here they are read back, element by element. -/

namespace Cert.Proof.Edges

open Idealize.ShloMosaic

/-- A rank-zero shape has one index. -/
theorem idx0_subsingleton : Subsingleton (⟨0, ![]⟩ : Shape).Idx := ⟨fun a b => funext fun k => k.elim0⟩

/-- A word at least `0` and less than a small `n`, both read signed, is less than `n` read unsigned. -/
theorem toNat_lt_of_signed {x n : BitVec 32} (h0 : IntOp.cmpi .sge x 0#32 = 1#1) (h1 : IntOp.cmpi .slt x n = 1#1)
    (hn : n.toNat < 2 ^ 31) : x.toNat < n.toNat := by
  have h0 := IntOp.cmpi_sge.mp h0
  have h1 := IntOp.cmpi_slt.mp h1
  simp only [BitVec.toInt_eq_toNat_cond, BitVec.toNat_ofNat, Nat.reducePow, Nat.reduceMod] at h0 h1
  omega

variable {F : FTy → Type} [FloatOps F]

/-- The precondition `in_range`: every atom number is less than 50000 and every shift number less than 27. -/
theorem in_range_out (a0 : FVec F Cert.Pre_in_range.S1x50000x3 .f32) (a1 : FVec F Cert.Pre_in_range.S1x3x3 .f32)
    (a2 : FVec F Cert.Pre_in_range.S27x3 .f32) (a3 : IVec Cert.Pre_in_range.S1x50000x3 32)
    (a4 : IVec Cert.Pre_in_range.S2x3200000 32) (a5 : IVec Cert.Pre_in_range.S3200000 32)
    (a6 : FVec F Cert.Pre_in_range.S_ .f32)
    (h : Cert.Pre_in_range.fn (F := F) a0 a1 a2 a3 a4 a5 a6 = fun _ => 1#1) :
    (∀ y, (a4 y).toNat < 50000) ∧ ∀ y, (a5 y).toNat < 27 := by
  haveI : Subsingleton Cert.Pre_in_range.S_.Idx := idx0_subsingleton
  have e := congrFun h (fun k => k.elim0)
  obtain ⟨e, e4⟩ := IntOp.andi_eq_one.mp e
  obtain ⟨e, e3⟩ := IntOp.andi_eq_one.mp e
  obtain ⟨e1, e2⟩ := IntOp.andi_eq_one.mp e
  exact ⟨fun y => toNat_lt_of_signed (n := 50000#32) (Host.reduce_andi_all _ _ _ _ _ e1 y) (Host.reduce_andi_all _ _ _ _ _ e2 y) (by decide),
    fun y => toNat_lt_of_signed (n := 27#32) (Host.reduce_andi_all _ _ _ _ _ e3 y) (Host.reduce_andi_all _ _ _ _ _ e4 y) (by decide)⟩

/-- A value whose absolute value is below the pattern of `+∞` is a real number. -/
theorem real_of_abs_lt {x : Ideal .f32}
    (h : FloatOps.cmpf .olt (FloatOps.hostAbsf x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine ⟨fun e => ?_, fun e => ?_⟩ <;> subst e <;> simp [Ideal.cmp] at h'

/-- The precondition `in_range_finite`: the index ranges, a cell matrix of real numbers, and species words in
    `[−2³⁰, 2³⁰)`. -/
theorem in_range_finite_out (a0 : FVec Ideal Cert.Pre_in_range_finite.S1x50000x3 .f32)
    (a1 : FVec Ideal Cert.Pre_in_range_finite.S1x3x3 .f32)
    (a2 : FVec Ideal Cert.Pre_in_range_finite.S27x3 .f32) (a3 : IVec Cert.Pre_in_range_finite.S1x50000x3 32)
    (a4 : IVec Cert.Pre_in_range_finite.S2x3200000 32) (a5 : IVec Cert.Pre_in_range_finite.S3200000 32)
    (a6 : FVec Ideal Cert.Pre_in_range_finite.S_ .f32)
    (h : Cert.Pre_in_range_finite.fn (F := Ideal) a0 a1 a2 a3 a4 a5 a6 = fun _ => 1#1) :
    (∀ y, (a4 y).toNat < 50000) ∧ (∀ y, (a5 y).toNat < 27) ∧ (∀ y, a1 y ≠ ⊤ ∧ a1 y ≠ ⊥)
      ∧ ∀ y, -1073741824 ≤ (a3 y).toInt ∧ (a3 y).toInt < 1073741824 := by
  haveI : Subsingleton Cert.Pre_in_range_finite.S_.Idx := idx0_subsingleton
  have e := congrFun h (fun k => k.elim0)
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e1, e2⟩ := IntOp.andi_eq_one.mp e
  exact ⟨fun y => toNat_lt_of_signed (n := 50000#32) (Host.reduce_andi_all _ _ _ _ _ e1 y) (Host.reduce_andi_all _ _ _ _ _ e2 y) (by decide),
    fun y => toNat_lt_of_signed (n := 27#32) (Host.reduce_andi_all _ _ _ _ _ e3 y) (Host.reduce_andi_all _ _ _ _ _ e4 y) (by decide),
    fun y => real_of_abs_lt (Host.reduce_andi_all _ _ _ _ _ e5 y),
    fun y => ⟨IntOp.cmpi_sge.mp (Host.reduce_andi_all _ _ _ _ _ e6 y), IntOp.cmpi_slt.mp (Host.reduce_andi_all _ _ _ _ _ e7 y)⟩⟩

end Cert.Proof.Edges
-- ==== Proof.Steps.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import proofs.«01_k».proof.Proof.Gen.KernelIdeal
public import proofs.«01_k».proof.Proof.Gen.KernelIdeal.Skeleton

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it, and the ghost state -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, and one counter algebra for the copies in flight. -/
abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL
abbrev EC : UEmb Counters (MT nD τ sig (HIx 2) (Elt F) ℕ UU ℕ) := countersEmb

variable [FloatOps F]

/-! ## Reading an array at a number -/

/-- The element of `x` at the number `k` along every axis, the number taken modulo the axis (so always defined). -/
def at1 {s : Shape} {α : Type} (hs : ∀ a, 0 < s.size a) (x : s.Idx → α) (k : ℕ) : α :=
  x fun a => ⟨k % s.size a, Nat.mod_lt _ (hs a)⟩

/-- At a number within a one-axis array it is the element of that index. -/
theorem at1_eq {s : Shape} {α : Type} (hs : ∀ a, 0 < s.size a) (x : s.Idx → α) (k : ℕ) (i : s.Idx) (h : ∀ a, (i a).val = k) :
    at1 hs x k = x i := by
  unfold at1
  refine congrArg x (funext fun a => Fin.ext ?_)
  show k % s.size a = (i a).val
  rw [← h a, Nat.mod_eq_of_lt (i a).isLt]

/-! ## Owning a buffer, known by what it reads -/

section Own

variable {c : Thread nD τ} {sp : Space} {s : Shape} {e : EltTy}

/-- The buffer under `b` is wholly owned by the thread, and `b` reads `v` off it. -/
def Holds (c : Thread nD τ) {sp : Space} {s : Shape} {e : EltTy} (b : Memref sig c.2.kind sp s e) (v : s.Idx → Elt F e) : sProp 𝕄 :=
  iprop(∃ f, ⌜b.view.read (Elt F) f = v⌝ ∗ b.view.loc c ↦{fullShare} f)

/-- A load of a window of an owned buffer yields the window of what it reads. -/
theorem step_load {sp : CoreSpace} (b : Memref sig c.2.kind sp s e) {off off' size : Fin s.rank → ℕ} {inb : ∀ a, off a + size a ≤ s.size a}
    (h : off = off') (inb' : ∀ a, off' a + size a ≤ s.size a)
    {hl : b.view.LoadsAt (Rect.unit off size inb).toLoadRect} {α : Type}
    {k : ((Rect.unit off size inb).shape.Idx → Elt F e) → Prog (TpuEff nD τ sig (Elt F) Λ₀ c.2) α} {v : s.Idx → Elt F e} {Q : α → sProp 𝕄} :
    Holds c b v ⊢ iprop((Holds c b v -∗ wp frame (wpE (defs₀ (F := F)) 𝒱₀ c none) Set.univ (k (VecWindow.window v off' size inb')) Q)
      -∗ wp frame (wpE (defs₀ (F := F)) 𝒱₀ c none) Set.univ (Prog.lift (.load b (Rect.unit off size inb).toLoadRect hl) >>= k) Q) := by
  rw [Prog.bind_lift]
  unfold Holds
  iintro ⟨%f, %hf, Hf⟩ Hk
  iapply (wp_load 𝒱₀ c none Set.univ (m := b) (S := Finset.univ) (Finset.subset_univ _)) $$ [Hf]; · iexact Hf
  iintro Hf
  rw [View.readAt_unit b.view f inb h inb', hf]
  iapply Hk
  iexists f; isplitr; · ipureintro; exact hf
  iexact Hf

/-- An unmasked store of a window of an owned buffer puts the window into what it reads. -/
theorem step_store {sp : CoreSpace} (b : Memref sig c.2.kind sp s e) {off off' size : Fin s.rank → ℕ} {inb : ∀ a, off a + size a ≤ s.size a}
    (h : off = off')
    {w : (Rect.unit off size inb).shape.Idx → Elt F e} {hx : (b.access (Rect.unit off size inb)).Stores Finset.univ} {hm} {α : Type}
    {k : PUnit → Prog (TpuEff nD τ sig (Elt F) Λ₀ c.2) α} {v : s.Idx → Elt F e} {Q : α → sProp 𝕄} :
    Holds c b v ⊢ iprop((Holds c b (VecWindow.put v off' size w) -∗ wp frame (wpE (defs₀ (F := F)) 𝒱₀ c none) Set.univ (k ⟨⟩) Q)
      -∗ wp frame (wpE (defs₀ (F := F)) 𝒱₀ c none) Set.univ (Prog.lift (.store b (Rect.unit off size inb) w Finset.univ hx hm) >>= k) Q) := by
  rw [Prog.bind_lift]
  unfold Holds
  iintro ⟨%f, %hf, Hf⟩ Hk
  iapply (wp_store 𝒱₀ c none Set.univ (m := b) (S := Finset.univ) (f := f) (Finset.subset_univ _)) $$ [Hf]; · iexact Hf
  iintro Hf
  iapply Hk
  iexists (b.view.writes (Elt F) f [⟨Rect.unit off size inb, w⟩]); isplitr
  · ipureintro
    rw [View.read_writes_cons_put b.view f inb w [] h]
    exact congrArg (fun z => VecWindow.put z off' size w) hf
  iexact Hf

/-- A gather of words from an owned buffer reads, per lane, the element its index names. -/
theorem step_gather {t : Shape} (b : Memref sig c.2.kind .vmem s e) {idxs : Fin s.rank → IVec t 32}
    {h : ∀ a x, (idxs a x).toNat < s.size a} {hl : b.view.Loads} {α : Type}
    {k : Vec F t e → Prog (TpuEff nD τ sig (Elt F) Λ₀ c.2) α} {v : s.Idx → Elt F e} {Q : α → sProp 𝕄} :
    Holds c b v ⊢ iprop((Holds c b v -∗ wp frame (wpE (defs₀ (F := F)) 𝒱₀ c none) Set.univ (k fun x => v fun a => ⟨(idxs a x).toNat, h a x⟩) Q)
      -∗ wp frame (wpE (defs₀ (F := F)) 𝒱₀ c none) Set.univ (SparseCore.vectorLoadIdx b idxs h hl >>= k) Q) := by
  unfold Holds
  iintro ⟨%f, %hf, Hf⟩ Hk
  iapply (SparseCore.wp_vectorLoadIdx 𝒱₀ c none Set.univ (base := b) (S := Finset.univ) (f := f) (Finset.subset_univ _)) $$ [Hf]; · iexact Hf
  iintro Hf
  rw [show (fun x => v fun a => ⟨(idxs a x).toNat, h a x⟩) = loadIdx ((b.access (.whole s)).read (Elt F) f) idxs h from by
    subst hf; funext x
    exact congrArg (b.view.read (Elt F) f) (funext fun a => Fin.ext (by simp [idxAt]))]
  iapply Hk
  iexists f; isplitr; · ipureintro; exact hf
  iexact Hf

/-- A side condition that holds is passed. -/
theorem step_assume {P : Prop} {dP : Decidable P} (h : P) {α : Type} {k : PLift P → Prog (TpuEff nD τ sig (Elt F) Λ₀ c.2) α} {Q : α → sProp 𝕄} :
    wp frame (wpE (defs₀ (F := F)) 𝒱₀ c none) Set.univ (k ⟨h⟩) Q
      ⊢ wp frame (wpE (defs₀ (F := F)) 𝒱₀ c none) Set.univ (Prog.lift (.assume P dP) >>= k) Q := by
  rw [Prog.bind_lift]
  exact Entails.of_eq (wp_assume_of 𝒱₀ c none Set.univ h).symm

/-! ## Copies in flight on one semaphore -/

/-- `n` of `m` copies, each crediting `N` units, have been issued on the semaphore and `w` waits of `N` units performed; once all have landed they
    bring back `P`. -/
def Fly (c : Thread nD τ) (sm : SemLoc sig) (N m n w : ℕ) (P : sProp 𝕄) : sProp 𝕄 :=
  iprop(∃ (Ds : List (sProp 𝕄)) (R : sProp 𝕄),
    ⌜Ds.length = n ∧ (iprop(R ∗ bigSep (Finset.range n) fun i => Ds.getD i iprop(emp)) ⊢ P)⌝
      ∗ R ∗ Transfers.Batched EC c sm (none : HIx 2) N m Ds (w * N))

/-- A semaphore at zero is ready for a batch. -/
theorem fly_start (c : Thread nD τ) (sm : SemLoc sig) (N m : ℕ) :
    (semVal (c, sm) 0 : sProp 𝕄) ⊢ |={Set.univ}=> Fly (F := F) c sm N m 0 0 iprop(emp) := by
  iintro Hs
  imod (Transfers.batched_alloc EC c (none : HIx 2) N m) $$ Hs with HB
  imodintro
  unfold Fly
  iexists [], iprop(emp)
  isplitr
  · ipureintro; refine ⟨rfl, ?_⟩
    rw [Finset.range_zero, bigSep_empty]
    exact sep_elim_left
  isplitr; · iempintro
  rw [Nat.zero_mul]
  iexact HB

/-- The promise of one more delivery is the promise of the earlier ones and it. -/
theorem promise_snoc {Ds : List (sProp 𝕄)} {n : ℕ} (hn : Ds.length = n) {R R' X P P' : sProp 𝕄}
    (h : iprop(R ∗ bigSep (Finset.range n) fun i => Ds.getD i iprop(emp)) ⊢ P) (h' : iprop(R' ∗ X) ⊢ P') :
    iprop((R ∗ R') ∗ bigSep (Finset.range (n + 1)) fun i => (Ds ++ [X]).getD i iprop(emp)) ⊢ iprop(P ∗ P') := by
  subst hn
  rw [Finset.range_add_one, bigSep_insert Finset.notMem_range_self,
    show (Ds ++ [X]).getD Ds.length iprop(emp) = X by simp [List.getD],
    bigSep_congr (Ψ := fun i => Ds.getD i iprop(emp)) fun i hi => by
      have := Finset.mem_range.mp hi
      simp [List.getD, List.getElem?_append_left this]]
  change iprop((R ∗ R') ∗ X ∗ bigSep (Finset.range Ds.length) fun i => Ds.getD i iprop(emp)) ⊢ _
  iintro ⟨⟨HR, HR'⟩, HX, HD⟩
  isplitl [HR HD]
  · iapply h; isplitl [HR] <;> iassumption
  · iapply h'; isplitl [HR'] <;> iassumption

/-- A copy into an owned buffer is issued: the source is lent at its share, and both come back, the buffer reading what the source reads. -/
theorem step_issueIn {sp' : Space} {src : Memref sig c.2.kind sp s e} {dst : Memref sig c.2.kind sp' s e} {sm : SemLoc sig}
    {hsrc : src.view.WordExact} {hdst : dst.view.WordExact} {hsem : DmaTarget.Typed (nD := nD) sp sm (.here dst)} {α : Type}
    {k : PUnit → Prog (TpuEff nD τ sig (Elt F) Λ₀ c.2) α} {q : PosShare TreeShare} {fs : Buf (Elt F) (src.view.loc c)} {v : s.Idx → Elt F e}
    {N m n : ℕ} {P : sProp 𝕄} {Q : α → sProp 𝕄} (hN : dst.view.amount sm = N) (hn : n < m) :
    iprop(Fly c sm N m n 0 P ∗ (src.view.loc c ↦{q} fs) ∗ Holds c dst v)
      ⊢ iprop((Fly c sm N m (n + 1) 0 iprop(P ∗ (src.view.loc c ↦{q} fs) ∗ Holds c dst (src.view.read (Elt F) fs))
            -∗ wp frame (wpE (defs₀ (F := F)) 𝒱₀ c none) Set.univ (k ⟨⟩) Q)
          -∗ wp frame (wpE (defs₀ (F := F)) 𝒱₀ c none) Set.univ (Prog.lift (.enqueueDma src (.here dst) sm hsrc hdst hsem) >>= k) Q) := by
  rw [Prog.bind_lift]
  unfold Fly Holds
  iintro ⟨⟨%Ds, %R, %hD, HR, HB⟩, Hs, ⟨%fd, -, Hd⟩⟩ Hk
  obtain ⟨hlen, hP⟩ := hD
  ihave Hs' := (pointsTo_split_subset (q := q) (f := fs) (S := Finset.univ) (Finset.subset_univ src.view.set)).1 $$ Hs
  icases Hs' with ⟨Hs, Hrest⟩
  iapply (Transfers.wp_dmaBatched EC 𝒱₀ c none (none : HIx 2) N (Ds := Ds) (u := 0 * N) (m := m) hN (Finset.subset_univ _) (by omega) (by omega)) $$ [Hs Hd HB]
  · isplitl [Hs]; · iexact Hs
    isplitl [Hd]; · iexact Hd
    iexact HB
  iintro HB
  iapply Hk
  iexists _, iprop(R ∗ (src.view.loc c ↦[Finset.univ \ src.view.set]{q} fs))
  isplitr
  swap
  · isplitl [HR Hrest]; · isplitl [HR] <;> iassumption
    iexact HB
  ipureintro
  refine ⟨by rw [List.length_append, hlen]; rfl, promise_snoc hlen hP ?_⟩
  iintro ⟨Hrest, Hd, Hs⟩
  isplitl [Hs Hrest]
  · iapply (pointsTo_split_subset (q := q) (f := fs) (S := Finset.univ) (Finset.subset_univ src.view.set)).2
    isplitl [Hs] <;> iassumption
  iexists (dst.view.write (Elt F) fd (src.view.read (Elt F) fs) Finset.univ)
  isplitr
  swap; · iexact Hd
  ipureintro
  exact View.read_write_univ _ _

/-- The elements under `b` are owned, and `b` reads `v` off them. -/
def Covers (c : Thread nD τ) {sp : Space} {s : Shape} {e : EltTy} (b : Memref sig c.2.kind sp s e) (v : s.Idx → Elt F e) : sProp 𝕄 :=
  iprop(∃ g, ⌜b.view.read (Elt F) g = v⌝ ∗ b.view.loc c ↦[b.view.set]{fullShare} g)

/-- A copy out of an owned buffer is issued: it and the elements written come back, those reading what the buffer reads. -/
theorem step_issueOut {sp' : Space} {src : Memref sig c.2.kind sp s e} {dst : Memref sig c.2.kind sp' s e} {sm : SemLoc sig}
    {hsrc : src.view.WordExact} {hdst : dst.view.WordExact} {hsem : DmaTarget.Typed (nD := nD) sp sm (.here dst)} {α : Type}
    {k : PUnit → Prog (TpuEff nD τ sig (Elt F) Λ₀ c.2) α} {g : Buf (Elt F) (dst.view.loc c)} {v : s.Idx → Elt F e}
    {N m n : ℕ} {P : sProp 𝕄} {Q : α → sProp 𝕄} (hN : dst.view.amount sm = N) (hn : n < m) :
    iprop(Fly c sm N m n 0 P ∗ Holds c src v ∗ (dst.view.loc c ↦[dst.view.set]{fullShare} g))
      ⊢ iprop((Fly c sm N m (n + 1) 0 iprop(P ∗ Holds c src v ∗ Covers c dst v)
            -∗ wp frame (wpE (defs₀ (F := F)) 𝒱₀ c none) Set.univ (k ⟨⟩) Q)
          -∗ wp frame (wpE (defs₀ (F := F)) 𝒱₀ c none) Set.univ (Prog.lift (.enqueueDma src (.here dst) sm hsrc hdst hsem) >>= k) Q) := by
  rw [Prog.bind_lift]
  unfold Fly Holds Covers
  iintro ⟨⟨%Ds, %R, %hD, HR, HB⟩, ⟨%fs, %hfs, Hs⟩, Hd⟩ Hk
  obtain ⟨hlen, hP⟩ := hD
  ihave Hs' := (pointsTo_split_subset (q := fullShare) (f := fs) (S := Finset.univ) (Finset.subset_univ src.view.set)).1 $$ Hs
  icases Hs' with ⟨Hs, Hrest⟩
  iapply (Transfers.wp_dmaBatched EC 𝒱₀ c none (none : HIx 2) N (Ds := Ds) (u := 0 * N) (m := m) hN (Finset.Subset.refl _) (by omega) (by omega)) $$ [Hs Hd HB]
  · isplitl [Hs]; · iexact Hs
    isplitl [Hd]; · iexact Hd
    iexact HB
  iintro HB
  iapply Hk
  iexists _, iprop(R ∗ (src.view.loc c ↦[Finset.univ \ src.view.set]{fullShare} fs))
  isplitr
  swap
  · isplitl [HR Hrest]; · isplitl [HR] <;> iassumption
    iexact HB
  ipureintro
  refine ⟨by rw [List.length_append, hlen]; rfl, promise_snoc hlen hP ?_⟩
  iintro ⟨Hrest, Hd, Hs⟩
  isplitl [Hs Hrest]
  · iexists fs
    isplitr; · ipureintro; exact hfs
    iapply (pointsTo_split_subset (q := fullShare) (f := fs) (S := Finset.univ) (Finset.subset_univ src.view.set)).2
    isplitl [Hs] <;> iassumption
  iexists (dst.view.write (Elt F) g (src.view.read (Elt F) fs) Finset.univ)
  isplitr
  swap; · iexact Hd
  ipureintro
  exact (View.read_write_univ _ _).trans hfs

/-- What the thread owes, the waits it has performed so far being those it had or its own. -/
def Owed (c : Thread nD τ) (O : CellTallies nD τ sig (HIx 2)) (W : Waits sig (HIx 2)) : sProp 𝕄 :=
  iprop(Transfers.MayWaits c (none : HIx 2) O ∗ ∃ W', ⌜∀ p ∈ W', p ∈ W ∨ p.2 = none⌝ ∗ owes c O W')

/-- A wait that is not the batch's last. -/
theorem step_wait {sp' : Space} {s' : Shape} {e' : EltTy} {κ' : Kind} {sem : DmaSem sig} {srcw : Memref sig c.2.kind sp' s' e'} {dstw : Memref sig κ' sp s e}
    {hsrc : srcw.view.WordExact} {hdst : dstw.view.WordExact} {α : Type}
    {k : PUnit → Prog (TpuEff nD τ sig (Elt F) Λ₀ c.2) α} {N m w : ℕ} {P : sProp 𝕄} {Q : α → sProp 𝕄} {O : CellTallies nD τ sig (HIx 2)}
    {W : Waits sig (HIx 2)} (hN : dstw.view.dmaCredit = N) (hN0 : 0 < N) (hw : w + 1 < m) :
    iprop(Fly c (.dma sem) N m m w P ∗ Owed c O W)
      ⊢ iprop((iprop(Fly c (.dma sem) N m m (w + 1) P ∗ Owed c O W) -∗ wp frame (wpE (defs₀ (F := F)) 𝒱₀ c none) Set.univ (k ⟨⟩) Q)
          -∗ wp frame (wpE (defs₀ (F := F)) 𝒱₀ c none) Set.univ (Prog.lift (.waitDma2 sem srcw dstw hsrc hdst) >>= k) Q) := by
  rw [Prog.bind_lift]
  unfold Fly Owed
  iintro ⟨⟨%Ds, %R, %hD, HR, HB⟩, ⟨#Hm, %W', %hW, HO⟩⟩ Hk
  iapply (Transfers.wp_waitBatchedO EC 𝒱₀ c none (none : HIx 2) hN hD.1 (by rw [← Nat.succ_mul, Nat.mul_comm]; exact Nat.mul_lt_mul_of_pos_left hw hN0)) $$ [HB HO]
  · isplitl [HB]; · iexact HB
    isplitl [HO]; · iexact HO
    iapply (Transfers.MayWaits.elim (SemLoc.dma sem)) $$ Hm
  iintro ⟨HB, HO⟩
  iapply Hk
  isplitl [HB HR]
  · iexists Ds, R
    isplitr; · ipureintro; exact hD
    isplitl [HR]; · iexact HR
    rw [Nat.succ_mul]; iexact HB
  isplitr; · iexact Hm
  iexists _
  isplitr
  swap; · iexact HO
  ipureintro
  intro p hp
  rcases Finset.mem_insert.mp hp with hp | hp
  · exact .inr (hp ▸ rfl)
  · exact hW p hp

/-- The batch's last wait: everything promised is here, and the semaphore is at zero. -/
theorem step_waitLast {sp' : Space} {s' : Shape} {e' : EltTy} {κ' : Kind} {sem : DmaSem sig} {srcw : Memref sig c.2.kind sp' s' e'} {dstw : Memref sig κ' sp s e}
    {hsrc : srcw.view.WordExact} {hdst : dstw.view.WordExact} {α : Type}
    {k : PUnit → Prog (TpuEff nD τ sig (Elt F) Λ₀ c.2) α} {N m w : ℕ} {P : sProp 𝕄} {Q : α → sProp 𝕄} {O : CellTallies nD τ sig (HIx 2)}
    {W : Waits sig (HIx 2)} (hN : dstw.view.dmaCredit = N) (hN0 : 0 < N) (hw : w + 1 = m) :
    iprop(Fly c (.dma sem) N m m w P ∗ Owed c O W)
      ⊢ iprop((iprop(P ∗ semVal (c, .dma sem) 0 ∗ Owed c O W) -∗ wp frame (wpE (defs₀ (F := F)) 𝒱₀ c none) Set.univ (k ⟨⟩) Q)
          -∗ wp frame (wpE (defs₀ (F := F)) 𝒱₀ c none) Set.univ (Prog.lift (.waitDma2 sem srcw dstw hsrc hdst) >>= k) Q) := by
  rw [Prog.bind_lift]
  unfold Fly Owed
  iintro ⟨⟨%Ds, %R, %hD, HR, HB⟩, ⟨#Hm, %W', %hW, HO⟩⟩ Hk
  iapply (Transfers.wp_waitBatchedAllO EC 𝒱₀ c none (none : HIx 2) hN hN0 hD.1 (by rw [← Nat.succ_mul, Nat.mul_comm, ← hw])) $$ [HB HO]
  · isplitl [HB]; · iexact HB
    isplitl [HO]; · iexact HO
    iapply (Transfers.MayWaits.elim (SemLoc.dma sem)) $$ Hm
  iintro ⟨HD, Hs, HO⟩
  iapply Hk
  isplitl [HD HR]
  · iapply hD.2
    isplitl [HR]; · iexact HR
    iapply (Entails.of_eq (show bigSep Finset.univ (Transfers.deliv (m := m) Ds) = bigSep (Finset.range m) fun i => Ds.getD i iprop(emp) by
      rw [← Nat.Iio_eq_range, ← Fin.map_valEmbedding_univ, BI.bigSep_map]; rfl))
    iexact HD
  isplitl [Hs]; · iexact Hs
  isplitr; · iexact Hm
  iexists _
  isplitr
  swap; · iexact HO
  ipureintro
  intro p hp
  rcases Finset.mem_insert.mp hp with hp | hp
  · exact .inr (hp ▸ rfl)
  · exact hW p hp

end Own

end Cert.Proof.Edges
-- ==== Proof.Groups.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import proofs.«01_k».proof.Proof.Gen.KernelIdeal
public import proofs.«01_k».proof.Proof.Gen.KernelIdeal.Skeleton
public import proofs.«01_k».proof.Proof.Steps

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {F : FTy → Type}

local notation "𝕄" => MT nD τ sig (HIx 2) (Elt F) ℕ UU ℕ

variable [FloatOps F]

/-! ## What one edge's lane computes -/

theorem pos50000 : ∀ a, 0 < S50000.size a := by decide
theorem pos32 : ∀ a, 0 < S32.size a := by decide

/-- Pass A at one edge: the squared first two components, from the table's entries at the edge's ends and its shift's. -/
def partF (xj xi yj yi sx sy : F .f32) : F .f32 :=
  FloatOps.addf (FloatOps.mulf (FloatOps.addf (FloatOps.subf xj xi) sx) (FloatOps.addf (FloatOps.subf xj xi) sx))
    (FloatOps.mulf (FloatOps.addf (FloatOps.subf yj yi) sy) (FloatOps.addf (FloatOps.subf yj yi) sy))

/-- Pass B at one edge: pass A's partial sum and the squared third component. -/
def sodF (p zj zi sz : F .f32) : F .f32 :=
  FloatOps.addf p (FloatOps.mulf (FloatOps.addf (FloatOps.subf zj zi) sz) (FloatOps.addf (FloatOps.subf zj zi) sz))

/-- The kept word: `x` where the squared distance is within the cutoff, all ones elsewhere. -/
def keepF (r sod : F .f32) (x : BitVec 32) : BitVec 32 := Scalar.select (FloatOps.cmpf .ole sod r) x 4294967295#32

theorem partF_congr {a a' b b' c c' d d' e e' f f' : F .f32} (ha : a = a') (hb : b = b') (hc : c = c') (hd : d = d') (he : e = e') (hf : f = f') :
    partF a b c d e f = partF a' b' c' d' e' f' := by subst ha hb hc hd he hf; rfl

theorem sodF_congr {p a a' b b' e e' : F .f32} (ha : a = a') (hb : b = b') (he : e = e') :
    sodF p a b e = sodF p a' b' e' := by subst ha hb he; rfl

theorem keepF_congr {r r' s s' : F .f32} {x : BitVec 32} (hr : r' = r) (hs : s' = s) : keepF r' s' x = keepF r s x := by subst hr hs; rfl

/-- Pass A from the tables and an edge's three words. -/
def partW (tx ty : Vec F S50000 .f32) (sx sy : Vec F S32 .f32) (bi bj bs : BitVec 32) : F .f32 :=
  partF (at1 pos50000 tx bj.toNat) (at1 pos50000 tx bi.toNat) (at1 pos50000 ty bj.toNat) (at1 pos50000 ty bi.toNat)
    (at1 pos32 sx bs.toNat) (at1 pos32 sy bs.toNat)

/-- Pass B from the tables, an edge's three words and its partial sum. -/
def sodW (tz : Vec F S50000 .f32) (sz : Vec F S32 .f32) (bi bj bs : BitVec 32) (p : F .f32) : F .f32 :=
  sodF p (at1 pos50000 tz bj.toNat) (at1 pos50000 tz bi.toNat) (at1 pos32 sz bs.toNat)

/-! ## A chunk filled group by group -/

/-- The first `16 * k` elements are the new chunk's, the others the old one's. -/
def mix {α : Type} (k : ℕ) (old new : S2000.Idx → α) : S2000.Idx → α := fun y => if (y 0).val < 16 * k then new y else old y

theorem mix_zero {α : Type} (old new : S2000.Idx → α) : mix 0 old new = old :=
  funext fun y => if_neg (Nat.not_lt_zero _)

theorem mix_full {α : Type} (old new : S2000.Idx → α) : mix 125 old new = new :=
  funext fun y => if_pos (y 0).isLt

/-- Putting the new chunk's next sixteen elements advances the fill. -/
theorem put_mix {α : Type} (k : ℕ) (old new : S2000.Idx → α) (inb : ∀ a, (![16 * k] : Fin 1 → ℕ) a + S16.size a ≤ S2000.size a) :
    VecWindow.put (s := S2000) (mix k old new) ![16 * k] S16.size (VecWindow.window (s := S2000) new ![16 * k] S16.size inb) = mix (k + 1) old new := by
  funext y
  have h0 : (![16 * k] : Fin 1 → ℕ) 0 = 16 * k := rfl
  have h1 : S16.size 0 = 16 := rfl
  unfold VecWindow.put mix
  by_cases h : ∀ a, (![16 * k] : Fin 1 → ℕ) a ≤ (y a).val ∧ (y a).val < (![16 * k] : Fin 1 → ℕ) a + S16.size a
  · rw [dif_pos h]
    have := h 0
    rw [h0, h1] at this
    rw [if_pos (by omega)]
    unfold VecWindow.window
    refine congrArg new (funext fun a => Fin.ext ?_)
    show (![16 * k] : Fin 1 → ℕ) a + 1 * ((y a).val - (![16 * k] : Fin 1 → ℕ) a) = (y a).val
    have := h a
    omega
  · rw [dif_neg h]
    have hn : ¬ (16 * k ≤ (y 0).val ∧ (y 0).val < 16 * k + 16) := fun hh => h fun a => by
      obtain rfl : a = 0 := Subsingleton.elim _ _
      rw [h0, h1]; exact hh
    by_cases h2 : (y 0).val < 16 * k
    · rw [if_pos h2, if_pos (by omega)]
    · rw [if_neg h2, if_neg (by omega)]

theorem inb16 (k : ℕ) (h : k < 125) : ∀ a, (![16 * k] : Fin 1 → ℕ) a + S16.size a ≤ S2000.size a := fun a => by
  obtain rfl : a = 0 := Subsingleton.elim _ _
  show 16 * k + 16 ≤ 2000
  omega

/-- A one-axis gather's indices are in range where every word is. -/
theorem lane_inb {n : ℕ} {v : IVec S16 32} (h : ∀ x, (v x).toNat < n) :
    ∀ a x, ((![v] : Fin 1 → IVec S16 32) a x).toNat < (⟨1, ![n]⟩ : Shape).size a := fun a x => by
  obtain rfl : a = 0 := Subsingleton.elim _ _
  exact h x

/-- What a one-axis gather reads, as the table at a number. -/
theorem lane_at {n : ℕ} {α : Type} (hs : ∀ a, 0 < (⟨1, ![n]⟩ : Shape).size a) (tab : (⟨1, ![n]⟩ : Shape).Idx → α) (v : IVec S16 32) (x : S16.Idx)
    (h : ∀ a x, ((![v] : Fin 1 → IVec S16 32) a x).toNat < (⟨1, ![n]⟩ : Shape).size a) :
    tab (fun a => ⟨((![v] : Fin 1 → IVec S16 32) a x).toNat, h a x⟩) = at1 hs tab (v x).toNat :=
  (at1_eq hs tab _ _ fun a => by obtain rfl : a = 0 := Subsingleton.elim _ _; rfl).symm

/-! ## Pass A's group -/

/-- Pass A's chunk from its three words' chunks. -/
def partC (tx ty : Vec F S50000 .f32) (sx sy : Vec F S32 .f32) (bi bj bs : Vec F S2000 .i32) : Vec F S2000 .f32 :=
  fun y => partW tx ty sx sy (bi y) (bj y) (bs y)

/-- The thread of a coordinate pair of pass A's grid, -/
abbrev thrA (d : Dev nD) (i : grid0.Coords) : Thread nD τ := (d, .scVector ((i 0).castLE hcore0) ((i 1).castLE hsub0))
/-- and of pass B's. -/
abbrev thrB (d : Dev nD) (i : grid1.Coords) : Thread nD τ := (d, .scVector ((i 0).castLE hcore1) ((i 1).castLE hsub1))

/-- The stored group of pass A is the chunk's window. -/
theorem pay2_eq (tx ty : Vec F S50000 .f32) (sx sy : Vec F S32 .f32) (bi bj bs : Vec F S2000 .i32) (k : ℕ)
    (inb : ∀ a, (![16 * k] : Fin 1 → ℕ) a + S16.size a ≤ S2000.size a)
    (h1 : ∀ a x, ((![VecWindow.window (s := S2000) bj ![16 * k] S16.size inb] : Fin 1 → IVec S16 32) a x).toNat < (⟨1, ![50000]⟩ : Shape).size a) (h2 : ∀ a x, ((![VecWindow.window (s := S2000) bi ![16 * k] S16.size inb] : Fin 1 → IVec S16 32) a x).toNat < (⟨1, ![50000]⟩ : Shape).size a) (h3 : ∀ a x, ((![VecWindow.window (s := S2000) bs ![16 * k] S16.size inb] : Fin 1 → IVec S16 32) a x).toNat < (⟨1, ![32]⟩ : Shape).size a) :
    k0_pay2 (F := F) (fun x => tx fun a => ⟨((![VecWindow.window (s := S2000) bj ![16 * k] S16.size inb] : Fin 1 → IVec S16 32) a x).toNat, h1 a x⟩)
        (fun x => tx fun a => ⟨((![VecWindow.window (s := S2000) bi ![16 * k] S16.size inb] : Fin 1 → IVec S16 32) a x).toNat, h2 a x⟩)
        (fun x => ty fun a => ⟨((![VecWindow.window (s := S2000) bj ![16 * k] S16.size inb] : Fin 1 → IVec S16 32) a x).toNat, h1 a x⟩)
        (fun x => ty fun a => ⟨((![VecWindow.window (s := S2000) bi ![16 * k] S16.size inb] : Fin 1 → IVec S16 32) a x).toNat, h2 a x⟩)
        (fun x => sx fun a => ⟨((![VecWindow.window (s := S2000) bs ![16 * k] S16.size inb] : Fin 1 → IVec S16 32) a x).toNat, h3 a x⟩)
        (fun x => sy fun a => ⟨((![VecWindow.window (s := S2000) bs ![16 * k] S16.size inb] : Fin 1 → IVec S16 32) a x).toNat, h3 a x⟩)
      = VecWindow.window (s := S2000) (partC tx ty sx sy bi bj bs) ![16 * k] S16.size inb :=
  funext fun x => partF_congr (lane_at pos50000 tx (VecWindow.window (s := S2000) bj ![16 * k] S16.size inb) x h1) (lane_at pos50000 tx (VecWindow.window (s := S2000) bi ![16 * k] S16.size inb) x h2)
    (lane_at pos50000 ty (VecWindow.window (s := S2000) bj ![16 * k] S16.size inb) x h1) (lane_at pos50000 ty (VecWindow.window (s := S2000) bi ![16 * k] S16.size inb) x h2)
    (lane_at pos32 sx (VecWindow.window (s := S2000) bs ![16 * k] S16.size inb) x h3) (lane_at pos32 sy (VecWindow.window (s := S2000) bs ![16 * k] S16.size inb) x h3)

section GroupA

variable (i : grid0.Coords) (arg2 : Memref sig .scVector .hbm S6400000 .i32) (harg2 : arg2.IsWhole) (arg3 : Memref sig .scVector .hbm S3200000 .i32) (harg3 : arg3.IsWhole) (arg4 : Memref sig .scVector .hbm S50000 .f32) (harg4 : arg4.IsWhole) (arg5 : Memref sig .scVector .hbm S50000 .f32) (harg5 : arg5.IsWhole) (arg6 : Memref sig .scVector .hbm S32 .f32) (harg6 : arg6.IsWhole) (arg7 : Memref sig .scVector .hbm S32 .f32) (harg7 : arg7.IsWhole) (arg8 : Memref sig .scVector .hbm S3200000 .f32) (harg8 : arg8.IsWhole) (arg9 : Memref sig .scVector .vmem S50000 .f32) (harg9 : arg9.IsWhole) (arg10 : Memref sig .scVector .vmem S50000 .f32) (harg10 : arg10.IsWhole) (arg11 : Memref sig .scVector .vmem S32 .f32) (harg11 : arg11.IsWhole) (arg12 : Memref sig .scVector .vmem S32 .f32) (harg12 : arg12.IsWhole) (arg13 : Memref sig .scVector .vmem S2000 .i32) (harg13 : arg13.IsWhole) (arg14 : Memref sig .scVector .vmem S2000 .i32) (harg14 : arg14.IsWhole) (arg15 : Memref sig .scVector .vmem S2000 .i32) (harg15 : arg15.IsWhole) (arg16 : Memref sig .scVector .vmem S2000 .f32) (harg16 : arg16.IsWhole) (arg17 : Memref sig .scVector .vmem S2000 .i32) (harg17 : arg17.IsWhole) (arg18 : Memref sig .scVector .vmem S2000 .i32) (harg18 : arg18.IsWhole) (arg19 : Memref sig .scVector .vmem S2000 .i32) (harg19 : arg19.IsWhole) (arg20 : Memref sig .scVector .vmem S2000 .f32) (harg20 : arg20.IsWhole) (arg21 : DmaSems sig S_) (arg22 : DmaSems sig S_) (arg23 : DmaSems sig S_) (arg24 : DmaSems sig S_) (v21_r0 : DmaSems sig S_) (v21_r1 : DmaSems sig S_) (v21_r2 : DmaSems sig S_) (v21_r3 : DmaSems sig S_) (v2 : BitVec 32) (c0_i32_0 : BitVec 32) (c1_i32 : BitVec 32) (k0_t1 : Fin k0_t1_loop.trips)

/-- What pass A's inner loop owns before group `k`: the tables, the three word chunks, and the chunk filled so far. -/
def InvA (d : Dev nD) (tx ty : Vec F S50000 .f32) (sx sy : Vec F S32 .f32) (bi bj bs : Vec F S2000 .i32) (old : Vec F S2000 .f32) (k : ℕ) : sProp 𝕄 :=
  iprop(Holds (thrA d i) arg9 tx ∗ Holds (thrA d i) arg10 ty ∗ Holds (thrA d i) arg11 sx ∗ Holds (thrA d i) arg12 sy
    ∗ Holds (thrA d i) arg13 bi ∗ Holds (thrA d i) arg14 bj ∗ Holds (thrA d i) arg15 bs
    ∗ Holds (thrA d i) arg16 (mix k old (partC tx ty sx sy bi bj bs)))

set_option maxHeartbeats 4000000 in
/-- One group of pass A: sixteen lanes of the chunk. -/
theorem groupA (d : Dev nD) (tx ty : Vec F S50000 .f32) (sx sy : Vec F S32 .f32) (bi bj bs : Vec F S2000 .i32) (old : Vec F S2000 .f32)
    (hbi : ∀ y, (bi y).toNat < 50000) (hbj : ∀ y, (bj y).toNat < 50000) (hbs : ∀ y, (bs y).toNat < 32) (k : Fin k0_t2_loop.trips) (acc : Unit) :
    InvA i arg9 arg10 arg11 arg12 arg13 arg14 arg15 arg16 d tx ty sx sy bi bj bs old k.val
      ⊢ wp frame (wpE (defs₀ (F := F)) 𝒱₀ (thrA d i) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 v21_r0 v21_r1 v21_r2 v21_r3 v2 c0_i32_0 c1_i32 k0_t1 k acc)
          fun _ => InvA i arg9 arg10 arg11 arg12 arg13 arg14 arg15 arg16 d tx ty sx sy bi bj bs old (k.val + 1) := by
  have hk : k.val < 125 := k.isLt
  have gj := lane_inb (n := 50000) (v := VecWindow.window (s := S2000) bj ![16 * k.val] S16.size (inb16 k.val hk)) fun x => hbj _
  have gi := lane_inb (n := 50000) (v := VecWindow.window (s := S2000) bi ![16 * k.val] S16.size (inb16 k.val hk)) fun x => hbi _
  have gs := lane_inb (n := 32) (v := VecWindow.window (s := S2000) bs ![16 * k.val] S16.size (inb16 k.val hk)) fun x => hbs _
  unfold InvA k0_t2_body
  iintro ⟨Htx, Hty, Hsx, Hsy, Hbi, Hbj, Hbs, Hbp⟩
  iapply (step_load (c := thrA d i) arg13 (k0_off7_eq k) (inb16 k.val hk)) $$ Hbi; iintro Hbi
  iapply (step_assume (c := thrA d i) (P := k0_chk2 _) ⟨lane_inb fun x => hbi _, lane_inb fun x => hbi _⟩)
  iapply (step_load (c := thrA d i) arg14 (k0_off7_eq k) (inb16 k.val hk)) $$ Hbj; iintro Hbj
  iapply (step_assume (c := thrA d i) (P := k0_chk1 _) ⟨lane_inb fun x => hbj _, lane_inb fun x => hbj _⟩)
  iapply (step_load (c := thrA d i) arg15 (k0_off7_eq k) (inb16 k.val hk)) $$ Hbs; iintro Hbs
  iapply (step_assume (c := thrA d i) (P := k0_chk3 _) ⟨lane_inb fun x => hbs _, lane_inb fun x => hbs _⟩)
  iapply (step_gather (c := thrA d i) arg9) $$ Htx; iintro Htx
  iapply (step_gather (c := thrA d i) arg9) $$ Htx; iintro Htx
  iapply (step_gather (c := thrA d i) arg10) $$ Hty; iintro Hty
  iapply (step_gather (c := thrA d i) arg10) $$ Hty; iintro Hty
  iapply (step_gather (c := thrA d i) arg11) $$ Hsx; iintro Hsx
  iapply (step_gather (c := thrA d i) arg12) $$ Hsy; iintro Hsy
  iapply (step_load (c := thrA d i) arg16 (k0_off8_eq k) (inb16 k.val hk)) $$ Hbp; iintro Hbp
  iapply (step_store (c := thrA d i) arg16 (k0_off8_eq k)) $$ Hbp; iintro Hbp
  sl_step
  isplitl [Htx]; · iexact Htx
  isplitl [Hty]; · iexact Hty
  isplitl [Hsx]; · iexact Hsx
  isplitl [Hsy]; · iexact Hsy
  isplitl [Hbi]; · iexact Hbi
  isplitl [Hbj]; · iexact Hbj
  isplitl [Hbs]; · iexact Hbs
  rw [← put_mix k.val old (partC tx ty sx sy bi bj bs) (inb16 k.val hk), ← pay2_eq tx ty sx sy bi bj bs k.val (inb16 k.val hk) gj gi gs]
  iexact Hbp

end GroupA

/-! ## Pass B's group -/

/-- Pass B's chunk of squared distances. -/
def sodC (tz : Vec F S50000 .f32) (sz : Vec F S32 .f32) (bi bj bs : Vec F S2000 .i32) (bp : Vec F S2000 .f32) : Vec F S2000 .f32 :=
  fun y => sodW tz sz (bi y) (bj y) (bs y) (bp y)

/-- Pass B's chunk of kept words, of the words `x`. -/
def keepC (r : F .f32) (tz : Vec F S50000 .f32) (sz : Vec F S32 .f32) (bi bj bs : Vec F S2000 .i32) (bp : Vec F S2000 .f32)
    (x : Vec F S2000 .i32) : Vec F S2000 .i32 :=
  fun y => keepF r (sodC tz sz bi bj bs bp y) (x y)

/-- The stored groups of pass B are the chunks' windows. -/
theorem payB_eq (tz : Vec F S50000 .f32) (sz : Vec F S32 .f32) (bi bj bs : Vec F S2000 .i32) (bp : Vec F S2000 .f32) (k : ℕ)
    (inb : ∀ a, (![16 * k] : Fin 1 → ℕ) a + S16.size a ≤ S2000.size a)
    (h1 : ∀ a x, ((![VecWindow.window (s := S2000) bj ![16 * k] S16.size inb] : Fin 1 → IVec S16 32) a x).toNat < (⟨1, ![50000]⟩ : Shape).size a) (h2 : ∀ a x, ((![VecWindow.window (s := S2000) bi ![16 * k] S16.size inb] : Fin 1 → IVec S16 32) a x).toNat < (⟨1, ![50000]⟩ : Shape).size a) (h3 : ∀ a x, ((![VecWindow.window (s := S2000) bs ![16 * k] S16.size inb] : Fin 1 → IVec S16 32) a x).toNat < (⟨1, ![32]⟩ : Shape).size a) :
    k1_pay1 (F := F) (VecWindow.window (s := S2000) bp ![16 * k] S16.size inb) (fun x => tz fun a => ⟨((![VecWindow.window (s := S2000) bj ![16 * k] S16.size inb] : Fin 1 → IVec S16 32) a x).toNat, h1 a x⟩)
        (fun x => tz fun a => ⟨((![VecWindow.window (s := S2000) bi ![16 * k] S16.size inb] : Fin 1 → IVec S16 32) a x).toNat, h2 a x⟩)
        (fun x => sz fun a => ⟨((![VecWindow.window (s := S2000) bs ![16 * k] S16.size inb] : Fin 1 → IVec S16 32) a x).toNat, h3 a x⟩)
      = VecWindow.window (s := S2000) (sodC tz sz bi bj bs bp) ![16 * k] S16.size inb :=
  funext fun x => sodF_congr (lane_at pos50000 tz (VecWindow.window (s := S2000) bj ![16 * k] S16.size inb) x h1) (lane_at pos50000 tz (VecWindow.window (s := S2000) bi ![16 * k] S16.size inb) x h2) (lane_at pos32 sz (VecWindow.window (s := S2000) bs ![16 * k] S16.size inb) x h3)

theorem payKeep_eq (r : F .f32) (v3 : Vec F S16 .f32) (hv3 : ∀ x, v3 x = r) (tz : Vec F S50000 .f32) (sz : Vec F S32 .f32)
    (bi bj bs : Vec F S2000 .i32) (bp : Vec F S2000 .f32) (y : Vec F S2000 .i32) (k : ℕ)
    (inb : ∀ a, (![16 * k] : Fin 1 → ℕ) a + S16.size a ≤ S2000.size a)
    (h1 : ∀ a x, ((![VecWindow.window (s := S2000) bj ![16 * k] S16.size inb] : Fin 1 → IVec S16 32) a x).toNat < (⟨1, ![50000]⟩ : Shape).size a) (h2 : ∀ a x, ((![VecWindow.window (s := S2000) bi ![16 * k] S16.size inb] : Fin 1 → IVec S16 32) a x).toNat < (⟨1, ![50000]⟩ : Shape).size a) (h3 : ∀ a x, ((![VecWindow.window (s := S2000) bs ![16 * k] S16.size inb] : Fin 1 → IVec S16 32) a x).toNat < (⟨1, ![32]⟩ : Shape).size a) :
    k1_pay3 (F := F) v3 k1_pay9 (VecWindow.window (s := S2000) y ![16 * k] S16.size inb) (VecWindow.window (s := S2000) bp ![16 * k] S16.size inb) (fun x => tz fun a => ⟨((![VecWindow.window (s := S2000) bj ![16 * k] S16.size inb] : Fin 1 → IVec S16 32) a x).toNat, h1 a x⟩)
        (fun x => tz fun a => ⟨((![VecWindow.window (s := S2000) bi ![16 * k] S16.size inb] : Fin 1 → IVec S16 32) a x).toNat, h2 a x⟩)
        (fun x => sz fun a => ⟨((![VecWindow.window (s := S2000) bs ![16 * k] S16.size inb] : Fin 1 → IVec S16 32) a x).toNat, h3 a x⟩)
      = VecWindow.window (s := S2000) (keepC r tz sz bi bj bs bp y) ![16 * k] S16.size inb :=
  funext fun x => keepF_congr (hv3 x) (sodF_congr (lane_at pos50000 tz (VecWindow.window (s := S2000) bj ![16 * k] S16.size inb) x h1) (lane_at pos50000 tz (VecWindow.window (s := S2000) bi ![16 * k] S16.size inb) x h2) (lane_at pos32 sz (VecWindow.window (s := S2000) bs ![16 * k] S16.size inb) x h3))

section GroupB

variable (i : grid1.Coords) (arg2 : Memref sig .scVector .hbm S6400000 .i32) (harg2 : arg2.IsWhole) (arg3 : Memref sig .scVector .hbm S3200000 .i32) (harg3 : arg3.IsWhole) (arg4 : Memref sig .scVector .hbm S3200000 .f32) (harg4 : arg4.IsWhole) (arg5 : Memref sig .scVector .hbm S50000 .f32) (harg5 : arg5.IsWhole) (arg6 : Memref sig .scVector .hbm S32 .f32) (harg6 : arg6.IsWhole) (arg7 : Memref sig .scVector .hbm S16 .f32) (harg7 : arg7.IsWhole) (arg8 : Memref sig .scVector .hbm S6400000 .i32) (harg8 : arg8.IsWhole) (arg9 : Memref sig .scVector .hbm S3200000 .f32) (harg9 : arg9.IsWhole) (arg10 : Memref sig .scVector .vmem S50000 .f32) (harg10 : arg10.IsWhole) (arg11 : Memref sig .scVector .vmem S32 .f32) (harg11 : arg11.IsWhole) (arg12 : Memref sig .scVector .vmem S16 .f32) (harg12 : arg12.IsWhole) (arg13 : Memref sig .scVector .vmem S2000 .i32) (harg13 : arg13.IsWhole) (arg14 : Memref sig .scVector .vmem S2000 .i32) (harg14 : arg14.IsWhole) (arg15 : Memref sig .scVector .vmem S2000 .i32) (harg15 : arg15.IsWhole) (arg16 : Memref sig .scVector .vmem S2000 .f32) (harg16 : arg16.IsWhole) (arg17 : Memref sig .scVector .vmem S2000 .f32) (harg17 : arg17.IsWhole) (arg18 : Memref sig .scVector .vmem S2000 .i32) (harg18 : arg18.IsWhole) (arg19 : Memref sig .scVector .vmem S2000 .i32) (harg19 : arg19.IsWhole) (arg20 : Memref sig .scVector .vmem S2000 .i32) (harg20 : arg20.IsWhole) (arg21 : Memref sig .scVector .vmem S2000 .i32) (harg21 : arg21.IsWhole) (arg22 : Memref sig .scVector .vmem S2000 .i32) (harg22 : arg22.IsWhole) (arg23 : Memref sig .scVector .vmem S2000 .f32) (harg23 : arg23.IsWhole) (arg24 : Memref sig .scVector .vmem S2000 .f32) (harg24 : arg24.IsWhole) (arg25 : Memref sig .scVector .vmem S2000 .i32) (harg25 : arg25.IsWhole) (arg26 : Memref sig .scVector .vmem S2000 .i32) (harg26 : arg26.IsWhole) (arg27 : DmaSems sig S_) (arg28 : DmaSems sig S_) (arg29 : DmaSems sig S_) (arg30 : DmaSems sig S_) (v35_r0 : DmaSems sig S_) (v35_r1 : DmaSems sig S_) (v35_r2 : DmaSems sig S_) (v2 : BitVec 32) (c0_i32_0 : BitVec 32) (c1_i32 : BitVec 32) (k1_t1 : Fin k1_t1_loop.trips)

/-- What pass B's inner loop owns before group `k`. -/
def InvB (d : Dev nD) (r : F .f32) (tz : Vec F S50000 .f32) (sz : Vec F S32 .f32) (bi bj bs : Vec F S2000 .i32) (bp : Vec F S2000 .f32)
    (o1 : Vec F S2000 .f32) (o2 o3 : Vec F S2000 .i32) (k : ℕ) : sProp 𝕄 :=
  iprop(Holds (thrB d i) arg10 tz ∗ Holds (thrB d i) arg11 sz
    ∗ Holds (thrB d i) arg13 bi ∗ Holds (thrB d i) arg14 bj ∗ Holds (thrB d i) arg15 bs ∗ Holds (thrB d i) arg16 bp
    ∗ Holds (thrB d i) arg17 (mix k o1 (sodC tz sz bi bj bs bp))
    ∗ Holds (thrB d i) arg18 (mix k o2 (keepC r tz sz bi bj bs bp bi))
    ∗ Holds (thrB d i) arg19 (mix k o3 (keepC r tz sz bi bj bs bp bj)))

set_option maxHeartbeats 4000000 in
/-- One group of pass B: sixteen lanes of the three chunks it writes. -/
theorem groupB (d : Dev nD) (r : F .f32) (v3 : Vec F S16 .f32) (hv3 : ∀ x, v3 x = r) (tz : Vec F S50000 .f32) (sz : Vec F S32 .f32)
    (bi bj bs : Vec F S2000 .i32) (bp : Vec F S2000 .f32) (o1 : Vec F S2000 .f32) (o2 o3 : Vec F S2000 .i32)
    (hbi : ∀ y, (bi y).toNat < 50000) (hbj : ∀ y, (bj y).toNat < 50000) (hbs : ∀ y, (bs y).toNat < 32) (k : Fin k1_t2_loop.trips) (acc : Unit) :
    InvB i arg10 arg11 arg13 arg14 arg15 arg16 arg17 arg18 arg19 d r tz sz bi bj bs bp o1 o2 o3 k.val
      ⊢ wp frame (wpE (defs₀ (F := F)) 𝒱₀ (thrB d i) none) Set.univ (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v35_r0 v35_r1 v35_r2 v2 v3 k1_pay9 c0_i32_0 c1_i32 k1_t1 k acc)
          fun _ => InvB i arg10 arg11 arg13 arg14 arg15 arg16 arg17 arg18 arg19 d r tz sz bi bj bs bp o1 o2 o3 (k.val + 1) := by
  have hk : k.val < 125 := k.isLt
  have gj := lane_inb (n := 50000) (v := VecWindow.window (s := S2000) bj ![16 * k.val] S16.size (inb16 k.val hk)) fun x => hbj _
  have gi := lane_inb (n := 50000) (v := VecWindow.window (s := S2000) bi ![16 * k.val] S16.size (inb16 k.val hk)) fun x => hbi _
  have gs := lane_inb (n := 32) (v := VecWindow.window (s := S2000) bs ![16 * k.val] S16.size (inb16 k.val hk)) fun x => hbs _
  unfold InvB k1_t2_body
  iintro ⟨Htz, Hsz, Hbi, Hbj, Hbs, Hbp, H1, H2, H3⟩
  iapply (step_load (c := thrB d i) arg13 (k1_off7_eq k) (inb16 k.val hk)) $$ Hbi; iintro Hbi
  iapply (step_assume (c := thrB d i) (P := k1_chk2 _) (lane_inb fun x => hbi _))
  iapply (step_load (c := thrB d i) arg14 (k1_off7_eq k) (inb16 k.val hk)) $$ Hbj; iintro Hbj
  iapply (step_assume (c := thrB d i) (P := k1_chk1 _) (lane_inb fun x => hbj _))
  iapply (step_load (c := thrB d i) arg15 (k1_off7_eq k) (inb16 k.val hk)) $$ Hbs; iintro Hbs
  iapply (step_assume (c := thrB d i) (P := k1_chk3 _) (lane_inb fun x => hbs _))
  iapply (step_load (c := thrB d i) arg16 (k1_off7_eq k) (inb16 k.val hk)) $$ Hbp; iintro Hbp
  iapply (step_gather (c := thrB d i) arg10) $$ Htz; iintro Htz
  iapply (step_gather (c := thrB d i) arg10) $$ Htz; iintro Htz
  iapply (step_gather (c := thrB d i) arg11) $$ Hsz; iintro Hsz
  iapply (step_load (c := thrB d i) arg17 (k1_off8_eq k) (inb16 k.val hk)) $$ H1; iintro H1
  iapply (step_store (c := thrB d i) arg17 (k1_off8_eq k)) $$ H1; iintro H1
  iapply (step_load (c := thrB d i) arg18 (k1_off8_eq k) (inb16 k.val hk)) $$ H2; iintro H2
  iapply (step_store (c := thrB d i) arg18 (k1_off8_eq k)) $$ H2; iintro H2
  iapply (step_load (c := thrB d i) arg19 (k1_off8_eq k) (inb16 k.val hk)) $$ H3; iintro H3
  iapply (step_store (c := thrB d i) arg19 (k1_off8_eq k)) $$ H3; iintro H3
  sl_step
  isplitl [Htz]; · iexact Htz
  isplitl [Hsz]; · iexact Hsz
  isplitl [Hbi]; · iexact Hbi
  isplitl [Hbj]; · iexact Hbj
  isplitl [Hbs]; · iexact Hbs
  isplitl [Hbp]; · iexact Hbp
  isplitl [H1]; · rw [← put_mix k.val o1 _ (inb16 k.val hk), ← payB_eq tz sz bi bj bs bp k.val (inb16 k.val hk) gj gi gs]; iexact H1
  isplitl [H2]; · rw [← put_mix k.val o2 _ (inb16 k.val hk), ← payKeep_eq r v3 hv3 tz sz bi bj bs bp bi k.val (inb16 k.val hk) gj gi gs]; iexact H2
  rw [← put_mix k.val o3 _ (inb16 k.val hk), ← payKeep_eq r v3 hv3 tz sz bi bj bs bp bj k.val (inb16 k.val hk) gj gi gs]; iexact H3

end GroupB

end Cert.Proof.Edges
-- ==== Proof.Chunks.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import proofs.«01_k».proof.Proof.Gen.KernelIdeal
public import proofs.«01_k».proof.Proof.Gen.KernelIdeal.Skeleton
public import proofs.«01_k».proof.Proof.Groups

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## Chunks and ranges of a one-axis array -/

theorem posE : ∀ a, 0 < S3200000.size a := by decide
theorem pos2E : ∀ a, 0 < S6400000.size a := by decide

/-- The 2000 elements of an array from element `o` on. -/
def chunk {n : ℕ} {α : Type} (hs : ∀ a, 0 < (⟨1, ![n]⟩ : Shape).size a) (x : (⟨1, ![n]⟩ : Shape).Idx → α) (o : ℕ) : S2000.Idx → α :=
  fun z => at1 hs x (o + (z 0).val)

/-- The elements of a one-axis array from `lo` up to `hi`. -/
def rng (n lo hi : ℕ) : Finset (⟨1, ![n]⟩ : Shape).Idx := Finset.univ.filter fun y => lo ≤ (y 0).val ∧ (y 0).val < hi

theorem mem_rng {n lo hi : ℕ} {y : (⟨1, ![n]⟩ : Shape).Idx} : y ∈ rng n lo hi ↔ lo ≤ (y 0).val ∧ (y 0).val < hi := by simp [rng]

theorem rng_self (n lo : ℕ) : rng n lo lo = ∅ := by
  ext y; simp only [mem_rng, Finset.notMem_empty, iff_false]; omega

theorem rng_union {n lo mid hi : ℕ} (h₁ : lo ≤ mid) (h₂ : mid ≤ hi) : rng n lo hi = rng n lo mid ∪ rng n mid hi := by
  ext y; simp only [Finset.mem_union, mem_rng]; omega

theorem rng_disjoint (n lo mid hi : ℕ) : Disjoint (rng n lo mid) (rng n mid hi) := by
  rw [Finset.disjoint_left]; intro y; simp only [mem_rng]; omega

theorem rng_all (n : ℕ) : rng n 0 n = Finset.univ := by
  ext y; simp only [mem_rng, Finset.mem_univ, iff_true]; exact ⟨Nat.zero_le _, (y 0).isLt⟩

/-- A 2000-element rectangle at offset `o` is a range. -/
theorem rect_set {n o : ℕ} {off : Fin 1 → ℕ} (h : off = ![o]) (inb : ∀ a, off a + S2000.size a ≤ (⟨1, ![n]⟩ : Shape).size a) :
    (Rect.unit (s := (⟨1, ![n]⟩ : Shape)) off S2000.size inb).set = rng n o (o + 2000) := by
  subst h
  ext y
  rw [Rect.mem_set_unit, mem_rng]
  exact ⟨fun h => h 0, fun h a => by obtain rfl : a = 0 := Subsingleton.elim _ _; exact h⟩

/-- Reading a 2000-element rectangle at offset `o` is reading a chunk. -/
theorem rect_chunk {n o : ℕ} {α : Type} {off : Fin 1 → ℕ} (hs : ∀ a, 0 < (⟨1, ![n]⟩ : Shape).size a) (x : (⟨1, ![n]⟩ : Shape).Idx → α)
    (h : off = ![o]) (inb : ∀ a, off a + S2000.size a ≤ (⟨1, ![n]⟩ : Shape).size a) :
    (fun z => x ((Rect.unit (s := (⟨1, ![n]⟩ : Shape)) off S2000.size inb).emb z)) = chunk hs x o := by
  subst h
  funext z
  refine (at1_eq hs x _ _ fun a => ?_).symm
  obtain rfl : a = 0 := Subsingleton.elim _ _
  show ((Rect.unit (s := (⟨1, ![n]⟩ : Shape)) ![o] S2000.size inb).emb z 0).val = o + (z 0).val
  rw [Rect.emb_apply]
  show o + 1 * (z 0).val = _
  omega

section Points
variable {ℓ : Loc nD τ sig} {q : PosShare TreeShare} {f g : Buf (Elt F) ℓ}

/-- A promise may be weakened. -/
theorem Fly.mono {c : Thread nD τ} {sm : SemLoc sig} {N m n w : ℕ} {P P' : sProp 𝕄} (h : P ⊢ P') : Fly c sm N m n w P ⊢ Fly c sm N m n w P' := by
  unfold Fly
  iintro ⟨%Ds, %R, %hP, H⟩
  iexists Ds; iexists R
  isplitr
  · ipureintro; exact ⟨hP.1, hP.2.trans h⟩
  · iexact H

/-- What an outgoing copy has covered, where the value is what `G` reads, holds `G`. -/
theorem Covers.pts {c : Thread nD τ} {sp : Space} {s : Shape} {e : EltTy} {b : Memref sig c.2.kind sp s e} {v : s.Idx → Elt F e}
    {G : Buf (Elt F) (b.view.loc c)} (h : b.view.read (Elt F) G = v) :
    (Covers c b v : sProp 𝕄) ⊢ b.view.loc c ↦[b.view.set]{fullShare} G := by
  unfold Covers
  iintro ⟨%g, %hg, H⟩
  rw [pointsTo_congr (f := G) (g := g) fun i hi => ?_]
  · iexact H
  · obtain ⟨x, -, rfl⟩ := Finset.mem_map.mp hi
    have := congrFun (h.trans hg.symm) x
    rw [View.read_apply, View.read_apply] at this
    exact (cast_inj _).mp this

end Points

/-! ## A copy in, waited for at once -/

theorem copyIn {c : Thread nD τ} {sp sp' : Space} {s : Shape} {e : EltTy} {src : Memref sig c.2.kind sp s e} {dst : Memref sig c.2.kind sp' s e} {sem : DmaSem sig}
    {hsrc : src.view.WordExact} {hdst : dst.view.WordExact} {hsem : DmaTarget.Typed (nD := nD) sp (.dma sem) (.here dst)} {hsrc' : src.view.WordExact}
    {hdst' : dst.view.WordExact} {α : Type} {k : PUnit → Prog (TpuEff nD τ sig (Elt F) Λ₀ c.2) α} {q : PosShare TreeShare} {fs : Buf (Elt F) (src.view.loc c)}
    {v : s.Idx → Elt F e} {Q : α → sProp 𝕄} {O : CellTallies nD τ sig (HIx 2)} {W : Waits sig (HIx 2)} (hs : 0 < s.numel) :
    iprop(semVal (c, .dma sem) 0 ∗ (src.view.loc c ↦{q} fs) ∗ Holds c dst v ∗ Owed c O W)
      ⊢ iprop((iprop(semVal (c, .dma sem) 0 ∗ (src.view.loc c ↦{q} fs) ∗ Holds c dst (src.view.read (Elt F) fs) ∗ Owed c O W)
            -∗ wp frame (wpE (defs₀ (F := F)) 𝒱₀ c none) Set.univ (k ⟨⟩) Q)
          -∗ wp frame (wpE (defs₀ (F := F)) 𝒱₀ c none) Set.univ
            (Prog.lift (.enqueueDma src (.here dst) (.dma sem) hsrc hdst hsem) >>= fun _ => Prog.lift (.waitDma2 sem src dst hsrc' hdst') >>= k) Q) := by
  iintro ⟨Hs, Ha, Hb, HO⟩ HK
  imod (fly_start (F := F) c (.dma sem) dst.view.dmaCredit 1) $$ Hs with Hf
  iapply (step_issueIn (c := c) (N := dst.view.dmaCredit) (m := 1) (n := 0) rfl (by decide)) $$ [Hf Ha Hb]
  · iframe
  iintro Hf
  iapply (step_waitLast (c := c) (N := dst.view.dmaCredit) (m := 1) (w := 0) rfl (View.dmaCredit_pos _ hs) rfl) $$ [Hf HO]
  · iframe
  iintro ⟨⟨-, Ha, Hb⟩, Hs, HO⟩
  iapply HK
  iframe

/-! ## A core's copies of pass A -/

/-- The squared first two components of every edge. -/
def partG (tx ty : Vec F S50000 .f32) (sx sy : Vec F S32 .f32) (adj : Vec F S6400000 .i32) (sft : Vec F S3200000 .i32) : Vec F S3200000 .f32 :=
  fun y => partW tx ty sx sy (at1 pos2E adj (y 0).val) (at1 pos2E adj (3200000 + (y 0).val)) (at1 posE sft (y 0).val)

/-- The trip's guard: the loop's counter is positive after the first trip only. -/
theorem guard_iff : ∀ t : Fin 25, Scalar.cmpi .ne (Scalar.extui (Scalar.cmpi .sgt (Scf.iv 0#32 1#32 t.val) 0#32) : BitVec 32) 0#32 = 1#1 ↔ 0 < t.val := by
  decide

end Cert.Proof.Edges
-- ==== Proof.PassA.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import proofs.«01_k».proof.Proof.Gen.KernelIdeal
public import proofs.«01_k».proof.Proof.Gen.KernelIdeal.Skeleton
public import proofs.«01_k».proof.Proof.Chunks

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## Pass A on one tile -/

abbrev adjM : Memref sig .scVector .hbm S6400000 .i32 := Memref.whole main_v22_scv
abbrev sftM : Memref sig .scVector .hbm S3200000 .i32 := Memref.whole main_arg5_scv
abbrev partM : Memref sig .scVector .hbm S3200000 .f32 := Memref.whole main_v23_scv
abbrev a13 : Memref sig .scVector .vmem S2000 .i32 := Memref.whole cc0_scratch4
abbrev a14 : Memref sig .scVector .vmem S2000 .i32 := Memref.whole cc0_scratch5
abbrev a15 : Memref sig .scVector .vmem S2000 .i32 := Memref.whole cc0_scratch6
abbrev a16 : Memref sig .scVector .vmem S2000 .f32 := Memref.whole cc0_scratch7
abbrev a17 : Memref sig .scVector .vmem S2000 .i32 := Memref.whole cc0_scratch8
abbrev a18 : Memref sig .scVector .vmem S2000 .i32 := Memref.whole cc0_scratch9
abbrev a19 : Memref sig .scVector .vmem S2000 .i32 := Memref.whole cc0_scratch10
abbrev a20 : Memref sig .scVector .vmem S2000 .f32 := Memref.whole cc0_scratch11
abbrev a9 : Memref sig .scVector .vmem S50000 .f32 := Memref.whole cc0_scratch0
abbrev a10 : Memref sig .scVector .vmem S50000 .f32 := Memref.whole cc0_scratch1
abbrev a11 : Memref sig .scVector .vmem S32 .f32 := Memref.whole cc0_scratch2
abbrev a12 : Memref sig .scVector .vmem S32 .f32 := Memref.whole cc0_scratch3

abbrev txM : Memref sig .scVector .hbm S50000 .f32 := Memref.whole main_v11_scv
abbrev tyM : Memref sig .scVector .hbm S50000 .f32 := Memref.whole main_v13_scv
abbrev sxM : Memref sig .scVector .hbm S32 .f32 := Memref.whole main_v17_scv
abbrev syM : Memref sig .scVector .hbm S32 .f32 := Memref.whole main_v19_scv

/-- A tile's first edge. -/
abbrev baseA (i : grid0.Coords) : ℕ := 200000 * (i 1).val + 100000 * (i 0).val

theorem baseA_le (i : grid0.Coords) : baseA i ≤ 3100000 := by
  have h0 : (i 0).val < 2 := (i 0).isLt
  have h1 : (i 1).val < 16 := (i 1).isLt
  unfold baseA; omega

/-- What one copy into a chunk buffer adds to its semaphore, -/
abbrev NA : ℕ := a13.view.dmaCredit
theorem NA_pos : 0 < NA := View.dmaCredit_pos _ (by decide)
/-- and one copy out of one. -/
abbrev NO : ℕ := (partM.slice (Rect.unit (s := S3200000) ![0] S2000.size inb_S3200000_S2000_0) (fun _ => rfl)).view.dmaCredit
theorem NO_pos : 0 < NO := View.dmaCredit_pos _ (by decide)

section TripA
variable (i : grid0.Coords) (d : Dev nD) (tx ty : Vec F S50000 .f32) (sx sy : Vec F S32 .f32) (adj : Vec F S6400000 .i32) (sft : Vec F S3200000 .i32)
  (p0 : Vec F S3200000 .f32) (q1 q2 q3 q4 r1 r2 : PosShare TreeShare) (O : CellTallies nD τ sig (HIx 2)) (W : Waits sig (HIx 2))

/-- What a landed triple of copies hands back: the shares of the arrays read, and the three chunks from edge `o` on. -/
def InLanded (b1 b2 b3 : Memref sig .scVector .vmem S2000 .i32) (q q' r : PosShare TreeShare) (o : ℕ) : sProp 𝕄 :=
  iprop((adjM.view.loc (thrA d i) ↦{q} adj) ∗ (adjM.view.loc (thrA d i) ↦{q'} adj) ∗ (sftM.view.loc (thrA d i) ↦{r} sft)
    ∗ Holds (thrA d i) b1 (chunk pos2E adj o) ∗ Holds (thrA d i) b2 (chunk pos2E adj (3200000 + o)) ∗ Holds (thrA d i) b3 (chunk posE sft o))

/-- A triple's buffers and shares between flights. -/
def InFree (b1 b2 b3 : Memref sig .scVector .vmem S2000 .i32) (q q' r : PosShare TreeShare) : sProp 𝕄 :=
  iprop((adjM.view.loc (thrA d i) ↦{q} adj) ∗ (adjM.view.loc (thrA d i) ↦{q'} adj) ∗ (sftM.view.loc (thrA d i) ↦{r} sft)
    ∗ (∃ v, Holds (thrA d i) b1 v) ∗ (∃ v, Holds (thrA d i) b2 v) ∗ ∃ v, Holds (thrA d i) b3 v)

/-- The result's elements from `lo` up to `hi`, done. -/
abbrev doneA (lo hi : ℕ) : sProp 𝕄 := partM.view.loc (thrA d i) ↦[rng 3200000 lo hi]{fullShare} partG tx ty sx sy adj sft

theorem doneA_self (lo : ℕ) : doneA i d tx ty sx sy adj sft lo lo = (iprop(emp) : sProp 𝕄) := by
  unfold doneA; rw [rng_self, pointsTo_empty]

theorem doneA_join (lo mid hi : ℕ) (h₁ : lo ≤ mid) (h₂ : mid ≤ hi) :
    iprop(doneA i d tx ty sx sy adj sft lo mid ∗ doneA i d tx ty sx sy adj sft mid hi) ⊢ doneA i d tx ty sx sy adj sft lo hi := by
  unfold doneA; rw [rng_union (n := 3200000) h₁ h₂]; exact (pointsTo_union (rng_disjoint 3200000 lo mid hi)).2

/-- What a landed copy out hands back: its buffer, and the chunk at `o`, done. -/
def OutLanded (b : Memref sig .scVector .vmem S2000 .f32) (o : ℕ) : sProp 𝕄 :=
  iprop((∃ v, Holds (thrA d i) b v) ∗ doneA i d tx ty sx sy adj sft o (o + 2000))

/-- A copy out before trip `t`: none has started before the first trip; later the last trip's is in flight. -/
def OutSt (b : Memref sig .scVector .vmem S2000 .f32) (sm : DmaSem sig) (t o : ℕ) : sProp 𝕄 :=
  if t = 0 then iprop(semVal (thrA d i, .dma sm) 0 ∗ ∃ v, Holds (thrA d i) b v)
  else Fly (thrA d i) (.dma sm) NO 1 1 0 (OutLanded i d tx ty sx sy adj sft b o)

theorem OutSt_zero (b : Memref sig .scVector .vmem S2000 .f32) (sm : DmaSem sig) (o : ℕ) :
    OutSt i d tx ty sx sy adj sft b sm 0 o = iprop(semVal (thrA d i, .dma sm) 0 ∗ ∃ v, Holds (thrA d i) b v) := if_pos rfl

theorem OutSt_pos (b : Memref sig .scVector .vmem S2000 .f32) (sm : DmaSem sig) {t : ℕ} (o : ℕ) (h : t ≠ 0) :
    OutSt i d tx ty sx sy adj sft b sm t o = Fly (thrA d i) (.dma sm) NO 1 1 0 (OutLanded i d tx ty sx sy adj sft b o) := if_neg h

/-- What the tile owns before trip `t`. -/
def TripInvA (t : ℕ) : sProp 𝕄 :=
  iprop(Holds (thrA d i) a9 tx ∗ Holds (thrA d i) a10 ty ∗ Holds (thrA d i) a11 sx ∗ Holds (thrA d i) a12 sy
    ∗ Fly (thrA d i) (.dma cc0_scratch12.sem) NA 3 3 0 (InLanded i d adj sft a13 a14 a15 q1 q2 r1 (min (baseA i + 4000 * t) 3198000))
    ∗ InFree i d adj sft a17 a18 a19 q3 q4 r2 ∗ semVal (thrA d i, .dma cc0_scratch13.sem) 0
    ∗ OutSt i d tx ty sx sy adj sft a16 cc0_scratch14.sem t (baseA i + (4000 * t - 4000))
    ∗ OutSt i d tx ty sx sy adj sft a20 cc0_scratch15.sem t (baseA i + (4000 * t - 2000))
    ∗ doneA i d tx ty sx sy adj sft (baseA i) (baseA i + (4000 * t - 4000))
    ∗ (partM.view.loc (thrA d i) ↦[rng 3200000 (baseA i + 4000 * t) (baseA i + 100000)]{fullShare} p0)
    ∗ Owed (thrA d i) O W)

/-- The three copies' promises are the landed triple. -/
theorem landed_of (b1 b2 b3 : Memref sig .scVector .vmem S2000 .i32) (q q' r : PosShare TreeShare) (o : ℕ) {f1 f2 f3 : Fin 1 → ℕ}
    (h1 : f1 = ![o]) (h2 : f2 = ![3200000 + o]) (h3 : f3 = ![o])
    (n1 : ∀ a, f1 a + S2000.size a ≤ S6400000.size a) (n2 : ∀ a, f2 a + S2000.size a ≤ S6400000.size a) (n3 : ∀ a, f3 a + S2000.size a ≤ S3200000.size a) :
    iprop(((emp ∗ (adjM.view.loc (thrA d i) ↦{q} adj)
          ∗ Holds (thrA d i) b1 ((adjM.slice (Rect.unit (s := S6400000) f1 S2000.size n1) (fun _ => rfl)).view.read (Elt F) adj))
        ∗ (adjM.view.loc (thrA d i) ↦{q'} adj)
          ∗ Holds (thrA d i) b2 ((adjM.slice (Rect.unit (s := S6400000) f2 S2000.size n2) (fun _ => rfl)).view.read (Elt F) adj))
        ∗ (sftM.view.loc (thrA d i) ↦{r} sft)
          ∗ Holds (thrA d i) b3 ((sftM.slice (Rect.unit (s := S3200000) f3 S2000.size n3) (fun _ => rfl)).view.read (Elt F) sft))
      ⊢ InLanded i d adj sft b1 b2 b3 q q' r o := by
  have e1 : (adjM.slice (Rect.unit (s := S6400000) f1 S2000.size n1) (fun _ => rfl)).view.read (Elt F) adj = chunk pos2E adj o := rect_chunk pos2E adj h1 n1
  have e2 : (adjM.slice (Rect.unit (s := S6400000) f2 S2000.size n2) (fun _ => rfl)).view.read (Elt F) adj = chunk pos2E adj (3200000 + o) := rect_chunk pos2E adj h2 n2
  have e3 : (sftM.slice (Rect.unit (s := S3200000) f3 S2000.size n3) (fun _ => rfl)).view.read (Elt F) sft = chunk posE sft o := rect_chunk posE sft h3 n3
  rw [e1, e2, e3]
  unfold InLanded
  iintro ⟨⟨⟨-, Ha, Hb1⟩, Ha', Hb2⟩, Hs, Hb3⟩
  iframe

/-- A copy out's promise is its landing. -/
theorem outLanded_of (b : Memref sig .scVector .vmem S2000 .f32) (o : ℕ) {f : Fin 1 → ℕ} (h : f = ![o]) (n : ∀ a, f a + S2000.size a ≤ S3200000.size a) :
    iprop(emp ∗ Holds (thrA d i) b (partC tx ty sx sy (chunk pos2E adj o) (chunk pos2E adj (3200000 + o)) (chunk posE sft o))
        ∗ Covers (thrA d i) (partM.slice (Rect.unit (s := S3200000) f S2000.size n) (fun _ => rfl))
            (partC tx ty sx sy (chunk pos2E adj o) (chunk pos2E adj (3200000 + o)) (chunk posE sft o)))
      ⊢ OutLanded i d tx ty sx sy adj sft b o := by
  have e : (partM.slice (Rect.unit (s := S3200000) f S2000.size n) (fun _ => rfl)).view.read (Elt F) (partG tx ty sx sy adj sft)
      = partC tx ty sx sy (chunk pos2E adj o) (chunk pos2E adj (3200000 + o)) (chunk posE sft o) := by
    refine (rect_chunk posE (partG tx ty sx sy adj sft) h n).trans (funext fun z => ?_)
    have hz : o + (z 0).val < 3200000 := by
      have := n 0; subst h; have hz := (z 0).isLt
      change o + 2000 ≤ 3200000 at this
      change (z 0).val < 2000 at hz
      omega
    show at1 posE _ (o + (z 0).val) = _
    rw [at1_eq posE _ (o + (z 0).val) (fun a => ⟨o + (z 0).val, by obtain rfl : a = 0 := Subsingleton.elim _ _; exact hz⟩) fun a => rfl]
    show partW tx ty sx sy _ (at1 pos2E adj (3200000 + (o + (z 0).val))) _ = _
    rw [← Nat.add_assoc]
    rfl
  have hset : (partM.slice (Rect.unit (s := S3200000) f S2000.size n) (fun _ => rfl)).view.set = rng 3200000 o (o + 2000) :=
    (View.set_slice_whole ..).trans (rect_set h n)
  iintro ⟨-, Hb, Hc⟩
  unfold OutLanded
  isplitl [Hb]
  · iexists _; iexact Hb
  · have hc := Covers.pts (c := thrA d i) e
    rw [hset] at hc
    iapply hc $$ Hc

/-- The guarded wait before a chunk buffer is filled again: the last trip's copy out has landed, if there was one. -/
theorem flush (b : Memref sig .scVector .vmem S2000 .f32) (sm : DmaSem sig) (t o lo hi hi' : ℕ) {φ : Prop} [Decidable φ] (hφ : φ ↔ 0 < t)
    (h0 : t = 0 → hi' = hi) (h1 : 0 < t → lo ≤ hi ∧ o = hi ∧ hi' = hi + 2000)
    {sp' : Space} {s' : Shape} {e' : EltTy} {srcw : Memref sig .scVector sp' s' e'}
    {dstw : Memref sig .scVector .hbm S2000 .f32} {hsrc : srcw.view.WordExact} {hdst : dstw.view.WordExact} {α : Type}
    {R : Prog (TpuEff nD τ sig (Elt F) Λ₀ (thrA d i).2) α} {Q : α → sProp 𝕄} (hN : dstw.view.dmaCredit = NO) :
    iprop(OutSt i d tx ty sx sy adj sft b sm t o ∗ doneA i d tx ty sx sy adj sft lo hi ∗ Owed (thrA d i) O W)
      ⊢ iprop((iprop(semVal (thrA d i, .dma sm) 0 ∗ (∃ v, Holds (thrA d i) b v) ∗ doneA i d tx ty sx sy adj sft lo hi' ∗ Owed (thrA d i) O W)
            -∗ wp frame (wpE (defs₀ (F := F)) 𝒱₀ (thrA d i) none) Set.univ R Q)
          -∗ wp frame (wpE (defs₀ (F := F)) 𝒱₀ (thrA d i) none) Set.univ
            (if h : φ then Prog.lift (.waitDma2 sm srcw dstw hsrc hdst) >>= fun _ => R else R) Q) := by
  by_cases ht : t = 0
  · have hn : ¬ φ := fun h => by have := hφ.mp h; omega
    rw [dif_neg hn, h0 ht]
    unfold OutSt
    rw [if_pos ht]
    iintro ⟨⟨Hs, Hb⟩, Hd, HO⟩ HK
    iapply HK
    iframe
  · have hp : φ := hφ.mpr (by omega)
    obtain ⟨hle, rfl, rfl⟩ := h1 (by omega)
    rw [dif_pos hp]
    unfold OutSt
    rw [if_neg ht]
    iintro ⟨Hf, Hd, HO⟩ HK
    iapply (step_waitLast (c := thrA d i) hN NO_pos rfl) $$ [Hf HO]
    · iframe
    iintro ⟨HP, Hs, HO⟩
    iapply HK
    unfold OutLanded
    icases HP with ⟨Hb, Hc⟩
    iframe Hs Hb HO
    iapply (doneA_join i d tx ty sx sy adj sft lo o (o + 2000) hle (Nat.le_add_right o 2000))
    iframe

/-- Every word of a chunk is one of the array's. -/
theorem chunk_lt {n m : ℕ} (hs : ∀ a, 0 < (⟨1, ![n]⟩ : Shape).size a) {x : (⟨1, ![n]⟩ : Shape).Idx → BitVec 32} (h : ∀ y, (x y).toNat < m) (o : ℕ) :
    ∀ z, (chunk hs x o z).toNat < m := fun _ => h _

set_option maxHeartbeats 4000000 in
/-- One trip of pass A: two chunks, each fetched while the other is worked on. -/
theorem tripA (hadj : ∀ y, (adj y).toNat < 50000) (hsft : ∀ y, (sft y).toNat < 32) (v2 : BitVec 32) (t : Fin k0_t1_loop.trips) (acc : Unit) :
    TripInvA i d tx ty sx sy adj sft p0 q1 q2 q3 q4 r1 r2 O W t.val
      ⊢ wp frame (wpE (defs₀ (F := F)) 𝒱₀ (thrA d i) none) Set.univ
          (k0_t1_body (F := F) i adjM (Memref.isWhole_whole _) sftM (Memref.isWhole_whole _) txM (Memref.isWhole_whole _) tyM (Memref.isWhole_whole _) sxM (Memref.isWhole_whole _) syM (Memref.isWhole_whole _) partM (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc0_scratch12 cc0_scratch13 cc0_scratch14 cc0_scratch15 cc0_scoped0 cc0_scoped1 cc0_scoped2 cc0_scoped3 v2 t acc)
          fun _ => TripInvA i d tx ty sx sy adj sft p0 q1 q2 q3 q4 r1 r2 O W (t.val + 1) := by
  have ht : t.val < 25 := t.isLt
  have hb := baseA_le i
  have hmin : min (baseA i + 4000 * t.val) 3198000 = baseA i + 4000 * t.val := by omega
  unfold TripInvA k0_t1_body
  rw [k0_part1_eq_skeleton, hmin]
  unfold k0_part1_skel
  simp only [bind_assoc, pure_bind]
  iintro ⟨Htx, Hty, Hsx, Hsy, Hf, Hfree, Hs1, Ho0, Ho1, Hd, Hu, HO⟩
  unfold InFree
  icases Hfree with ⟨Hq3, Hq4, Hr2, ⟨%w1, Hb1⟩, ⟨%w2, Hb2⟩, ⟨%w3, Hb3⟩⟩
  imod (fly_start (F := F) (thrA d i) (.dma cc0_scratch13.sem) NA 3) $$ Hs1 with Hg
  iapply (step_issueIn (c := thrA d i) (N := NA) (m := 3) (n := 0) (dst := a17) rfl (by decide)) $$ [Hg Hq3 Hb1]
  · iframe
  iintro Hg
  iapply (step_issueIn (c := thrA d i) (N := NA) (m := 3) (n := 1) (dst := a18) rfl (by decide)) $$ [Hg Hq4 Hb2]
  · iframe
  iintro Hg
  iapply (step_issueIn (c := thrA d i) (N := NA) (m := 3) (n := 2) (dst := a19) rfl (by decide)) $$ [Hg Hr2 Hb3]
  · iframe
  iintro Hg
  ihave Hg := (Fly.mono (landed_of i d adj sft a17 a18 a19 q3 q4 r2 (baseA i + 4000 * t.val + 2000) (k0_off4_eq i t)
    ((k0_off5_eq i t).trans (congrArg (fun x => ![x]) (by unfold baseA; omega))) (k0_off6_eq i t) _ _ _)) $$ Hg
  iapply (step_wait (c := thrA d i) (N := NA) (m := 3) (w := 0) (dstw := a13) rfl NA_pos (by decide)) $$ [Hf HO]
  · iframe
  iintro ⟨Hf, HO⟩
  iapply (step_wait (c := thrA d i) (N := NA) (m := 3) (w := 1) (dstw := a14) rfl NA_pos (by decide)) $$ [Hf HO]
  · iframe
  iintro ⟨Hf, HO⟩
  iapply (step_waitLast (c := thrA d i) (N := NA) (m := 3) (w := 2) (dstw := a15) rfl NA_pos rfl) $$ [Hf HO]
  · iframe
  unfold InLanded
  iintro ⟨⟨Hq1, Hq2, Hr1, Hb1, Hb2, Hb3⟩, Hs0, HO⟩
  rw [wp_bind]
  iapply (flush i d tx ty sx sy adj sft O W a16 cc0_scratch14.sem t.val (baseA i + (4000 * t.val - 4000)) (baseA i) (baseA i + (4000 * t.val - 4000)) (baseA i + (4000 * t.val - 2000))
    (guard_iff t) (by intro h; omega) (by intro h; omega) rfl) $$ [Ho0 Hd HO]
  · iframe
  iintro ⟨Hso, ⟨%w4, Hb4⟩, Hd, HO⟩
  rw [← wp_bind]
  simp only [bind_assoc, pure_bind]
  iapply (Scf.wp_for_bind frame (wpE (defs₀ (F := F)) 𝒱₀ (thrA d i) none) Set.univ k0_t2_loop.lb k0_t2_loop.ub k0_t2_loop.st k0_t2_ok ⟨⟩ _
      (fun k _ => InvA i a9 a10 a11 a12 a13 a14 a15 a16 d tx ty sx sy (chunk pos2E adj (baseA i + 4000 * t.val)) (chunk pos2E adj (3200000 + (baseA i + 4000 * t.val))) (chunk posE sft (baseA i + 4000 * t.val)) w4 k)
      (fun k acc => groupA i adjM (Memref.isWhole_whole _) sftM (Memref.isWhole_whole _) txM (Memref.isWhole_whole _) tyM (Memref.isWhole_whole _) sxM (Memref.isWhole_whole _) syM (Memref.isWhole_whole _) partM (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc0_scratch12 cc0_scratch13 cc0_scratch14 cc0_scratch15 cc0_scoped0 cc0_scoped1 cc0_scoped2 cc0_scoped3 v2 0#32 1#32 t d tx ty sx sy _ _ _ w4
        (chunk_lt pos2E hadj _) (chunk_lt pos2E hadj _) (chunk_lt posE hsft _) k acc)) $$ [Htx Hty Hsx Hsy Hb1 Hb2 Hb3 Hb4]
  · unfold InvA
    rw [mix_zero]
    iframe
  iintro %_ HI
  unfold InvA
  icases HI with ⟨Htx, Hty, Hsx, Hsy, Hb1, Hb2, Hb3, Hb4⟩
  rw [show Scf.trips k0_t2_loop.lb k0_t2_loop.ub k0_t2_loop.st = 125 from rfl, mix_full]
  rw [rng_union (n := 3200000) (lo := baseA i + 4000 * t.val) (mid := baseA i + 4000 * t.val + 2000) (hi := baseA i + 100000) (by omega) (by omega)]
  icases (pointsTo_union (rng_disjoint 3200000 _ _ _)).1 $$ Hu with ⟨Hc, Hu⟩
  imod (fly_start (F := F) (thrA d i) (.dma cc0_scratch14.sem) NO 1) $$ Hso with Hw
  rw [← show (partM.slice (Rect.unit (s := S3200000) (k0_off9 i t) S2000.size (k0_off9_inb i t)) (fun _ => rfl)).view.set = rng 3200000 (baseA i + 4000 * t.val) (baseA i + 4000 * t.val + 2000) from
    (View.set_slice_whole ..).trans (rect_set (k0_off9_eq i t) _)]
  iapply (step_issueOut (c := thrA d i) (N := NO) (m := 1) (n := 0) (src := a16) (g := p0) rfl (by decide)) $$ [Hw Hb4 Hc]
  · iframe
  iintro Hw
  ihave Ho0 := (Fly.mono (outLanded_of i d tx ty sx sy adj sft a16 (baseA i + 4000 * t.val) (k0_off9_eq i t) _)) $$ Hw
  imod (fly_start (F := F) (thrA d i) (.dma cc0_scratch12.sem) NA 3) $$ Hs0 with Hf
  iapply (step_issueIn (c := thrA d i) (N := NA) (m := 3) (n := 0) (dst := a13) rfl (by decide)) $$ [Hf Hq1 Hb1]
  · iframe
  iintro Hf
  iapply (step_issueIn (c := thrA d i) (N := NA) (m := 3) (n := 1) (dst := a14) rfl (by decide)) $$ [Hf Hq2 Hb2]
  · iframe
  iintro Hf
  iapply (step_issueIn (c := thrA d i) (N := NA) (m := 3) (n := 2) (dst := a15) rfl (by decide)) $$ [Hf Hr1 Hb3]
  · iframe
  iintro Hf
  ihave Hf := (Fly.mono (landed_of i d adj sft a13 a14 a15 q1 q2 r1 (min (baseA i + 4000 * (t.val + 1)) 3198000) ((k0_off10_eq i t).trans (congrArg (fun x => ![x]) (by unfold baseA; omega)))
    ((k0_off11_eq i t).trans (congrArg (fun x => ![x]) (by unfold baseA; omega))) ((k0_off12_eq i t).trans (congrArg (fun x => ![x]) (by unfold baseA; omega))) _ _ _)) $$ Hf
  iapply (step_wait (c := thrA d i) (N := NA) (m := 3) (w := 0) (dstw := a17) rfl NA_pos (by decide)) $$ [Hg HO]
  · iframe
  iintro ⟨Hg, HO⟩
  iapply (step_wait (c := thrA d i) (N := NA) (m := 3) (w := 1) (dstw := a18) rfl NA_pos (by decide)) $$ [Hg HO]
  · iframe
  iintro ⟨Hg, HO⟩
  iapply (step_waitLast (c := thrA d i) (N := NA) (m := 3) (w := 2) (dstw := a19) rfl NA_pos rfl) $$ [Hg HO]
  · iframe
  unfold InLanded
  iintro ⟨⟨Hq3, Hq4, Hr2, Hb1, Hb2, Hb3⟩, Hs1, HO⟩
  iapply (flush i d tx ty sx sy adj sft O W a20 cc0_scratch15.sem t.val (baseA i + (4000 * t.val - 2000)) (baseA i) (baseA i + (4000 * t.val - 2000)) (baseA i + 4000 * t.val)
    (guard_iff t) (by intro h; omega) (by intro h; omega) rfl) $$ [Ho1 Hd HO]
  · iframe
  iintro ⟨Hso, ⟨%w4, Hb4⟩, Hd, HO⟩
  iapply (Scf.wp_for_bind frame (wpE (defs₀ (F := F)) 𝒱₀ (thrA d i) none) Set.univ k0_t3_loop.lb k0_t3_loop.ub k0_t3_loop.st k0_t3_ok ⟨⟩ _
      (fun k _ => InvA i a9 a10 a11 a12 a17 a18 a19 a20 d tx ty sx sy (chunk pos2E adj (baseA i + 4000 * t.val + 2000)) (chunk pos2E adj (3200000 + (baseA i + 4000 * t.val + 2000))) (chunk posE sft (baseA i + 4000 * t.val + 2000)) w4 k)
      (fun k acc => groupA i adjM (Memref.isWhole_whole _) sftM (Memref.isWhole_whole _) txM (Memref.isWhole_whole _) tyM (Memref.isWhole_whole _) sxM (Memref.isWhole_whole _) syM (Memref.isWhole_whole _) partM (Memref.isWhole_whole _) a9 (Memref.isWhole_whole _) a10 (Memref.isWhole_whole _) a11 (Memref.isWhole_whole _) a12 (Memref.isWhole_whole _) a17 (Memref.isWhole_whole _) a18 (Memref.isWhole_whole _) a19 (Memref.isWhole_whole _) a20 (Memref.isWhole_whole _) a17 (Memref.isWhole_whole _) a18 (Memref.isWhole_whole _) a19 (Memref.isWhole_whole _) a20 (Memref.isWhole_whole _) cc0_scratch12 cc0_scratch13 cc0_scratch14 cc0_scratch15 cc0_scoped0 cc0_scoped1 cc0_scoped2 cc0_scoped3 v2 0#32 1#32 t d tx ty sx sy _ _ _ w4
        (chunk_lt pos2E hadj _) (chunk_lt pos2E hadj _) (chunk_lt posE hsft _) k acc)) $$ [Htx Hty Hsx Hsy Hb1 Hb2 Hb3 Hb4]
  · unfold InvA
    rw [mix_zero]
    iframe
  iintro %_ HI
  unfold InvA
  icases HI with ⟨Htx, Hty, Hsx, Hsy, Hb1, Hb2, Hb3, Hb4⟩
  rw [show Scf.trips k0_t3_loop.lb k0_t3_loop.ub k0_t3_loop.st = 125 from rfl, mix_full]
  rw [rng_union (n := 3200000) (lo := baseA i + 4000 * t.val + 2000) (mid := baseA i + 4000 * t.val + 2000 + 2000) (hi := baseA i + 100000) (by omega) (by omega)]
  icases (pointsTo_union (rng_disjoint 3200000 _ _ _)).1 $$ Hu with ⟨Hc, Hu⟩
  imod (fly_start (F := F) (thrA d i) (.dma cc0_scratch15.sem) NO 1) $$ Hso with Hw
  rw [← show (partM.slice (Rect.unit (s := S3200000) (k0_off6 i t) S2000.size (k0_off6_inb i t)) (fun _ => rfl)).view.set = rng 3200000 (baseA i + 4000 * t.val + 2000) (baseA i + 4000 * t.val + 2000 + 2000) from
    (View.set_slice_whole ..).trans (rect_set (k0_off6_eq i t) _)]
  iapply (step_issueOut (c := thrA d i) (N := NO) (m := 1) (n := 0) (src := a20) (g := p0) rfl (by decide)) $$ [Hw Hb4 Hc]
  · iframe
  iintro Hw
  ihave Ho1 := (Fly.mono (outLanded_of i d tx ty sx sy adj sft a20 (baseA i + 4000 * t.val + 2000) (k0_off6_eq i t) _)) $$ Hw
  sl_step
  unfold OutSt
  rw [if_neg (Nat.succ_ne_zero _), if_neg (Nat.succ_ne_zero _), show baseA i + (4000 * (t.val + 1) - 4000) = baseA i + 4000 * t.val by omega,
    show baseA i + (4000 * (t.val + 1) - 2000) = baseA i + 4000 * t.val + 2000 by omega,
    show baseA i + 4000 * (t.val + 1) = baseA i + 4000 * t.val + 2000 + 2000 by omega]
  iframe
  isplitl [Hb1]; · iexists _; iexact Hb1
  isplitl [Hb2]; · iexists _; iexact Hb2
  iexists _; iexact Hb3

/-- The tile's scratch buffers and semaphores, as a run of the body finds and leaves them. -/
def ScratchA : sProp 𝕄 :=
  iprop((∃ v, Holds (thrA d i) a9 v) ∗ (∃ v, Holds (thrA d i) a10 v) ∗ (∃ v, Holds (thrA d i) a11 v) ∗ (∃ v, Holds (thrA d i) a12 v) ∗ (∃ v, Holds (thrA d i) a13 v) ∗ (∃ v, Holds (thrA d i) a14 v) ∗ (∃ v, Holds (thrA d i) a15 v) ∗ (∃ v, Holds (thrA d i) a16 v) ∗ (∃ v, Holds (thrA d i) a17 v) ∗ (∃ v, Holds (thrA d i) a18 v) ∗ (∃ v, Holds (thrA d i) a19 v) ∗ (∃ v, Holds (thrA d i) a20 v)
    ∗ semVal (thrA d i, .dma cc0_scratch12.sem) 0 ∗ semVal (thrA d i, .dma cc0_scratch13.sem) 0 ∗ semVal (thrA d i, .dma cc0_scratch14.sem) 0 ∗ semVal (thrA d i, .dma cc0_scratch15.sem) 0 ∗ semVal (thrA d i, .dma cc0_scoped0.sem) 0 ∗ semVal (thrA d i, .dma cc0_scoped1.sem) 0 ∗ semVal (thrA d i, .dma cc0_scoped2.sem) 0 ∗ semVal (thrA d i, .dma cc0_scoped3.sem) 0)

/-- The arrays the tile reads, each at the shares its copies take. -/
def ReadA (u : PosShare TreeShare) : sProp 𝕄 :=
  iprop((txM.view.loc (thrA d i) ↦{u} tx) ∗ (tyM.view.loc (thrA d i) ↦{u} ty) ∗ (sxM.view.loc (thrA d i) ↦{u} sx) ∗ (syM.view.loc (thrA d i) ↦{u} sy)
    ∗ (adjM.view.loc (thrA d i) ↦{q1} adj) ∗ (adjM.view.loc (thrA d i) ↦{q2} adj) ∗ (adjM.view.loc (thrA d i) ↦{q3} adj)
    ∗ (adjM.view.loc (thrA d i) ↦{q4} adj) ∗ (sftM.view.loc (thrA d i) ↦{r1} sft) ∗ (sftM.view.loc (thrA d i) ↦{r2} sft))

set_option maxHeartbeats 4000000 in
/-- Pass A's body on one tile leaves the tile's range of the partial sums. -/
theorem tileA (hadj : ∀ y, (adj y).toNat < 50000) (hsft : ∀ y, (sft y).toNat < 32) (u : PosShare TreeShare) :
    iprop(ReadA i d tx ty sx sy adj sft q1 q2 q3 q4 r1 r2 u ∗ (partM.view.loc (thrA d i) ↦[rng 3200000 (baseA i) (baseA i + 100000)]{fullShare} p0)
        ∗ ScratchA (F := F) i d ∗ Owed (thrA d i) O W)
      ⊢ wp frame (wpE (defs₀ (F := F)) 𝒱₀ (thrA d i) none) Set.univ
          (cc0__pass_a_body (F := F) i adjM (Memref.isWhole_whole _) sftM (Memref.isWhole_whole _) txM (Memref.isWhole_whole _) tyM (Memref.isWhole_whole _) sxM (Memref.isWhole_whole _) syM (Memref.isWhole_whole _) partM (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc0_scratch12 cc0_scratch13 cc0_scratch14 cc0_scratch15 cc0_scoped0 cc0_scoped1 cc0_scoped2 cc0_scoped3)
          fun _ => iprop(ReadA i d tx ty sx sy adj sft q1 q2 q3 q4 r1 r2 u ∗ doneA i d tx ty sx sy adj sft (baseA i) (baseA i + 100000)
            ∗ ScratchA (F := F) i d ∗ Owed (thrA d i) O W) := by
  have hb := baseA_le i
  rw [cc0__pass_a_body_eq_skeleton]
  unfold ReadA ScratchA cc0__pass_a_body_skel
  iintro ⟨⟨Htx, Hty, Hsx, Hsy, Hq1, Hq2, Hq3, Hq4, Hr1, Hr2⟩, Hu, ⟨⟨%v9, H9⟩, ⟨%v10, H10⟩, ⟨%v11, H11⟩, ⟨%v12, H12⟩, ⟨%v13, H13⟩, ⟨%v14, H14⟩, ⟨%v15, H15⟩,
    H16, H17, H18, H19, H20, Hs0, Hs1, Hs2, Hs3, Ht0, Ht1, Ht2, Ht3⟩, HO⟩
  iapply (copyIn (c := thrA d i) (dst := a9) (by decide)) $$ [Ht0 Htx H9 HO]
  · iframe
  iintro ⟨Ht0, Htx, H9, HO⟩
  iapply (copyIn (c := thrA d i) (dst := a10) (by decide)) $$ [Ht1 Hty H10 HO]
  · iframe
  iintro ⟨Ht1, Hty, H10, HO⟩
  iapply (copyIn (c := thrA d i) (dst := a11) (by decide)) $$ [Ht2 Hsx H11 HO]
  · iframe
  iintro ⟨Ht2, Hsx, H11, HO⟩
  iapply (copyIn (c := thrA d i) (dst := a12) (by decide)) $$ [Ht3 Hsy H12 HO]
  · iframe
  iintro ⟨Ht3, Hsy, H12, HO⟩
  imod (fly_start (F := F) (thrA d i) (.dma cc0_scratch12.sem) NA 3) $$ Hs0 with Hf
  iapply (step_issueIn (c := thrA d i) (N := NA) (m := 3) (n := 0) (dst := a13) rfl (by decide)) $$ [Hf Hq1 H13]
  · iframe
  iintro Hf
  iapply (step_issueIn (c := thrA d i) (N := NA) (m := 3) (n := 1) (dst := a14) rfl (by decide)) $$ [Hf Hq2 H14]
  · iframe
  iintro Hf
  iapply (step_issueIn (c := thrA d i) (N := NA) (m := 3) (n := 2) (dst := a15) rfl (by decide)) $$ [Hf Hr1 H15]
  · iframe
  iintro Hf
  ihave Hf := (Fly.mono (landed_of i d adj sft a13 a14 a15 q1 q2 r1 (min (baseA i + 4000 * 0) 3198000) ((k0_off1_eq i).trans (congrArg (fun x => ![x]) (by have h := baseA_le i; unfold baseA at h ⊢; omega)))
    ((k0_off2_eq i).trans (congrArg (fun x => ![x]) (by have h := baseA_le i; unfold baseA at h ⊢; omega))) ((k0_off3_eq i).trans (congrArg (fun x => ![x]) (by have h := baseA_le i; unfold baseA at h ⊢; omega))) _ _ _)) $$ Hf
  iapply (Scf.wp_for_bind frame (wpE (defs₀ (F := F)) 𝒱₀ (thrA d i) none) Set.univ k0_t1_loop.lb k0_t1_loop.ub k0_t1_loop.st k0_t1_ok ⟨⟩ _
      (fun t _ => TripInvA i d tx ty sx sy adj sft p0 q1 q2 q3 q4 r1 r2 O W t)
      (fun t acc => tripA i d tx ty sx sy adj sft p0 q1 q2 q3 q4 r1 r2 O W hadj hsft _ t acc)) $$ [H9 H10 H11 H12 Hf Hq3 Hq4 Hr2 H17 H18 H19 Hs1 Hs2 H16 Hs3 H20 Hu HO]
  · unfold TripInvA InFree
    rw [OutSt_zero, OutSt_zero, show baseA i + (4000 * 0 - 4000) = baseA i from rfl, doneA_self,
      show txM.view.read (Elt F) tx = tx from rfl, show tyM.view.read (Elt F) ty = ty from rfl, show sxM.view.read (Elt F) sx = sx from rfl,
      show syM.view.read (Elt F) sy = sy from rfl]
    iframe
  iintro %_ HI
  unfold TripInvA InFree
  rw [show Scf.trips k0_t1_loop.lb k0_t1_loop.ub k0_t1_loop.st = 25 from rfl,
    OutSt_pos _ _ _ _ _ _ _ _ _ _ _ (by decide : 25 ≠ 0), OutSt_pos _ _ _ _ _ _ _ _ _ _ _ (by decide : 25 ≠ 0)]
  icases HI with ⟨H9, H10, H11, H12, Hf, ⟨Hq3, Hq4, Hr2, H17, H18, H19⟩, Hs1, Ho0, Ho1, Hd, -, HO⟩
  iapply (step_wait (c := thrA d i) (N := NA) (m := 3) (w := 0) (dstw := a13) rfl NA_pos (by decide)) $$ [Hf HO]
  · iframe
  iintro ⟨Hf, HO⟩
  iapply (step_wait (c := thrA d i) (N := NA) (m := 3) (w := 1) (dstw := a14) rfl NA_pos (by decide)) $$ [Hf HO]
  · iframe
  iintro ⟨Hf, HO⟩
  iapply (step_waitLast (c := thrA d i) (N := NA) (m := 3) (w := 2) (dstw := a15) rfl NA_pos rfl) $$ [Hf HO]
  · iframe
  unfold InLanded
  iintro ⟨⟨Hq1, Hq2, Hr1, H13, H14, H15⟩, Hs0, HO⟩
  iapply (step_waitLast (c := thrA d i) (N := NO) (m := 1) (w := 0) rfl NO_pos rfl) $$ [Ho0 HO]
  · iframe
  iintro ⟨HP, Hs2, HO⟩
  iapply (step_waitLast (c := thrA d i) (N := NO) (m := 1) (w := 0) rfl NO_pos rfl) $$ [Ho1 HO]
  · iframe
  iintro ⟨HP', Hs3, HO⟩
  unfold OutLanded
  icases HP with ⟨H16, Hc⟩
  icases HP' with ⟨H20, Hc'⟩
  sl_step
  iframe Htx Hty Hsx Hsy Hq1 Hq2 Hq3 Hq4 Hr1 Hr2 H16 H17 H18 H19 H20 Hs0 Hs1 Hs2 Hs3 Ht0 Ht1 Ht2 Ht3 HO
  isplitl [Hd Hc Hc']
  · iapply (doneA_join i d tx ty sx sy adj sft (baseA i) (baseA i + (4000 * 25 - 2000)) _ (by omega) (by omega))
    iframe Hc'
    iapply (doneA_join i d tx ty sx sy adj sft (baseA i) (baseA i + (4000 * 25 - 4000)) _ (by omega) (by omega))
    iframe
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

end TripA

end Cert.Proof.Edges
-- ==== Proof.PassB.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import proofs.«01_k».proof.Proof.Gen.KernelIdeal
public import proofs.«01_k».proof.Proof.Gen.KernelIdeal.Skeleton
public import proofs.«01_k».proof.Proof.PassA

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## Pass B on one tile -/

abbrev tzM : Memref sig .scVector .hbm S50000 .f32 := Memref.whole main_v15_scv
abbrev szM : Memref sig .scVector .hbm S32 .f32 := Memref.whole main_v21_scv
abbrev rcM : Memref sig .scVector .hbm S16 .f32 := Memref.whole main_v9_scv
abbrev outM : Memref sig .scVector .hbm S6400000 .i32 := Memref.whole main_v24_0_scv
abbrev sodM : Memref sig .scVector .hbm S3200000 .f32 := Memref.whole main_v24_1_scv
abbrev b10 : Memref sig .scVector .vmem S50000 .f32 := Memref.whole cc1_scratch0
abbrev b11 : Memref sig .scVector .vmem S32 .f32 := Memref.whole cc1_scratch1
abbrev b12 : Memref sig .scVector .vmem S16 .f32 := Memref.whole cc1_scratch2
abbrev b13 : Memref sig .scVector .vmem S2000 .i32 := Memref.whole cc1_scratch3
abbrev b14 : Memref sig .scVector .vmem S2000 .i32 := Memref.whole cc1_scratch4
abbrev b15 : Memref sig .scVector .vmem S2000 .i32 := Memref.whole cc1_scratch5
abbrev b16 : Memref sig .scVector .vmem S2000 .f32 := Memref.whole cc1_scratch6
abbrev b17 : Memref sig .scVector .vmem S2000 .f32 := Memref.whole cc1_scratch7
abbrev b18 : Memref sig .scVector .vmem S2000 .i32 := Memref.whole cc1_scratch8
abbrev b19 : Memref sig .scVector .vmem S2000 .i32 := Memref.whole cc1_scratch9
abbrev b20 : Memref sig .scVector .vmem S2000 .i32 := Memref.whole cc1_scratch10
abbrev b21 : Memref sig .scVector .vmem S2000 .i32 := Memref.whole cc1_scratch11
abbrev b22 : Memref sig .scVector .vmem S2000 .i32 := Memref.whole cc1_scratch12
abbrev b23 : Memref sig .scVector .vmem S2000 .f32 := Memref.whole cc1_scratch13
abbrev b24 : Memref sig .scVector .vmem S2000 .f32 := Memref.whole cc1_scratch14
abbrev b25 : Memref sig .scVector .vmem S2000 .i32 := Memref.whole cc1_scratch15
abbrev b26 : Memref sig .scVector .vmem S2000 .i32 := Memref.whole cc1_scratch16

/-- The first chunks of the two results: what a wait for a copy out names. -/
abbrev sodZ : Memref sig .scVector .hbm S2000 .f32 := sodM.slice (Rect.unit (s := S3200000) ![0] S2000.size inb_S3200000_S2000_0) (fun _ => rfl)
abbrev outZ : Memref sig .scVector .hbm S2000 .i32 := outM.slice (Rect.unit (s := S6400000) ![0] S2000.size inb_S6400000_S2000_0) (fun _ => rfl)

/-- The squared distance of edge `e`. -/
def sodAt (tz : Vec F S50000 .f32) (sz : Vec F S32 .f32) (adj : Vec F S6400000 .i32) (sft : Vec F S3200000 .i32) (part : Vec F S3200000 .f32) (e : ℕ) : F .f32 :=
  sodW tz sz (at1 pos2E adj e) (at1 pos2E adj (3200000 + e)) (at1 posE sft e) (at1 posE part e)

/-- The squared distance of every edge. -/
def sodG (tz : Vec F S50000 .f32) (sz : Vec F S32 .f32) (adj : Vec F S6400000 .i32) (sft : Vec F S3200000 .i32) (part : Vec F S3200000 .f32) : Vec F S3200000 .f32 :=
  fun y => sodAt tz sz adj sft part (y 0).val

/-- Both ends of every edge, kept where the edge is within the cutoff: the first ends, then the second. -/
def keepG (r : F .f32) (tz : Vec F S50000 .f32) (sz : Vec F S32 .f32) (adj : Vec F S6400000 .i32) (sft : Vec F S3200000 .i32) (part : Vec F S3200000 .f32) :
    Vec F S6400000 .i32 :=
  fun y => keepF r (sodAt tz sz adj sft part (if (y 0).val < 3200000 then (y 0).val else (y 0).val - 3200000)) (adj y)

/-- A tile's first edge. -/
abbrev baseB (i : grid1.Coords) : ℕ := 200000 * (i 1).val + 100000 * (i 0).val

theorem baseB_le (i : grid1.Coords) : baseB i ≤ 3100000 := by
  have h0 : (i 0).val < 2 := (i 0).isLt
  have h1 : (i 1).val < 16 := (i 1).isLt
  unfold baseB; omega

section TripB
variable (i : grid1.Coords) (d : Dev nD) (r : F .f32) (tz : Vec F S50000 .f32) (sz : Vec F S32 .f32) (adj : Vec F S6400000 .i32)
  (sft : Vec F S3200000 .i32) (part : Vec F S3200000 .f32) (s0 : Vec F S3200000 .f32) (k0 : Vec F S6400000 .i32)
  (q1 q2 q3 q4 r1 r2 p1 p2 : PosShare TreeShare) (O : CellTallies nD τ sig (HIx 2)) (W : Waits sig (HIx 2))

/-- What a landed quadruple of copies hands back: the shares of the arrays read, and the four chunks from edge `o` on. -/
def InLandedB (b1 b2 b3 : Memref sig .scVector .vmem S2000 .i32) (b4 : Memref sig .scVector .vmem S2000 .f32) (q q' r p : PosShare TreeShare) (o : ℕ) : sProp 𝕄 :=
  iprop((adjM.view.loc (thrB d i) ↦{q} adj) ∗ (adjM.view.loc (thrB d i) ↦{q'} adj) ∗ (sftM.view.loc (thrB d i) ↦{r} sft)
    ∗ (partM.view.loc (thrB d i) ↦{p} part)
    ∗ Holds (thrB d i) b1 (chunk pos2E adj o) ∗ Holds (thrB d i) b2 (chunk pos2E adj (3200000 + o)) ∗ Holds (thrB d i) b3 (chunk posE sft o)
    ∗ Holds (thrB d i) b4 (chunk posE part o))

/-- A quadruple's buffers and shares between flights. -/
def InFreeB (b1 b2 b3 : Memref sig .scVector .vmem S2000 .i32) (b4 : Memref sig .scVector .vmem S2000 .f32) (q q' r p : PosShare TreeShare) : sProp 𝕄 :=
  iprop((adjM.view.loc (thrB d i) ↦{q} adj) ∗ (adjM.view.loc (thrB d i) ↦{q'} adj) ∗ (sftM.view.loc (thrB d i) ↦{r} sft)
    ∗ (partM.view.loc (thrB d i) ↦{p} part)
    ∗ (∃ v, Holds (thrB d i) b1 v) ∗ (∃ v, Holds (thrB d i) b2 v) ∗ (∃ v, Holds (thrB d i) b3 v) ∗ ∃ v, Holds (thrB d i) b4 v)

/-- The three rows of results of the edges from `lo` up to `hi`, at given contents, -/
def rowsB (s : Vec F S3200000 .f32) (k : Vec F S6400000 .i32) (lo hi : ℕ) : sProp 𝕄 :=
  iprop((sodM.view.loc (thrB d i) ↦[rng 3200000 lo hi]{fullShare} s) ∗ (outM.view.loc (thrB d i) ↦[rng 6400000 lo hi]{fullShare} k)
    ∗ outM.view.loc (thrB d i) ↦[rng 6400000 (3200000 + lo) (3200000 + hi)]{fullShare} k)
/-- and done. -/
abbrev doneB (lo hi : ℕ) : sProp 𝕄 := rowsB i d (sodG tz sz adj sft part) (keepG r tz sz adj sft part) lo hi

theorem rowsB_self (s : Vec F S3200000 .f32) (k : Vec F S6400000 .i32) (lo : ℕ) : (iprop(emp) : sProp 𝕄) ⊢ rowsB i d s k lo lo := by
  unfold rowsB
  rw [rng_self, rng_self, rng_self, pointsTo_empty, pointsTo_empty]
  iintro -
  isplitl []; · iempintro
  isplitl []; · iempintro
  iempintro

theorem rowsB_split (s : Vec F S3200000 .f32) (k : Vec F S6400000 .i32) (lo mid hi : ℕ) (h₁ : lo ≤ mid) (h₂ : mid ≤ hi) :
    rowsB i d s k lo hi ⊢ iprop(rowsB i d s k lo mid ∗ rowsB i d s k mid hi) := by
  unfold rowsB
  rw [rng_union (n := 3200000) h₁ h₂, rng_union (n := 6400000) h₁ h₂, rng_union (n := 6400000) (Nat.add_le_add_left h₁ 3200000) (Nat.add_le_add_left h₂ 3200000)]
  iintro ⟨Ha, Hb, Hc⟩
  icases (pointsTo_union (rng_disjoint 3200000 lo mid hi)).1 $$ Ha with ⟨Ha, Ha'⟩
  icases (pointsTo_union (rng_disjoint 6400000 lo mid hi)).1 $$ Hb with ⟨Hb, Hb'⟩
  icases (pointsTo_union (rng_disjoint 6400000 (3200000 + lo) (3200000 + mid) (3200000 + hi))).1 $$ Hc with ⟨Hc, Hc'⟩
  iframe

/-- The first chunk of the rows apart, piece by piece. -/
theorem rowsB_take (s : Vec F S3200000 .f32) (k : Vec F S6400000 .i32) (o hi : ℕ) (h : o + 2000 ≤ hi) :
    rowsB i d s k o hi ⊢ iprop(((sodM.view.loc (thrB d i) ↦[rng 3200000 o (o + 2000)]{fullShare} s) ∗ (outM.view.loc (thrB d i) ↦[rng 6400000 o (o + 2000)]{fullShare} k)
      ∗ outM.view.loc (thrB d i) ↦[rng 6400000 (3200000 + o) (3200000 + (o + 2000))]{fullShare} k) ∗ rowsB i d s k (o + 2000) hi) :=
  rowsB_split i d s k o (o + 2000) hi (Nat.le_add_right o 2000) h

theorem rowsB_join (s : Vec F S3200000 .f32) (k : Vec F S6400000 .i32) (lo mid hi : ℕ) (h₁ : lo ≤ mid) (h₂ : mid ≤ hi) :
    iprop(rowsB i d s k lo mid ∗ rowsB i d s k mid hi) ⊢ rowsB i d s k lo hi := by
  unfold rowsB
  rw [rng_union (n := 3200000) h₁ h₂, rng_union (n := 6400000) h₁ h₂, rng_union (n := 6400000) (Nat.add_le_add_left h₁ 3200000) (Nat.add_le_add_left h₂ 3200000)]
  iintro ⟨⟨Ha, Hb, Hc⟩, Ha', Hb', Hc'⟩
  isplitl [Ha Ha']
  · iapply (pointsTo_union (rng_disjoint 3200000 lo mid hi)).2; iframe
  isplitl [Hb Hb']
  · iapply (pointsTo_union (rng_disjoint 6400000 lo mid hi)).2; iframe
  · iapply (pointsTo_union (rng_disjoint 6400000 (3200000 + lo) (3200000 + mid) (3200000 + hi))).2; iframe

/-- What a landed triple of copies out hands back: the buffers, and the rows of the chunk at `o`, done. -/
def OutLandedB (c1 : Memref sig .scVector .vmem S2000 .f32) (c2 c3 : Memref sig .scVector .vmem S2000 .i32) (o : ℕ) : sProp 𝕄 :=
  iprop((∃ v, Holds (thrB d i) c1 v) ∗ (∃ v, Holds (thrB d i) c2 v) ∗ (∃ v, Holds (thrB d i) c3 v) ∗ doneB i d r tz sz adj sft part o (o + 2000))

/-- The copies out before trip `t`: none has started before the first trip; later the last trip's are in flight. -/
def OutStB (c1 : Memref sig .scVector .vmem S2000 .f32) (c2 c3 : Memref sig .scVector .vmem S2000 .i32) (sm : DmaSem sig) (t o : ℕ) : sProp 𝕄 :=
  if t = 0 then iprop(semVal (thrB d i, .dma sm) 0 ∗ (∃ v, Holds (thrB d i) c1 v) ∗ (∃ v, Holds (thrB d i) c2 v) ∗ ∃ v, Holds (thrB d i) c3 v)
  else Fly (thrB d i) (.dma sm) NO 3 3 0 (OutLandedB i d r tz sz adj sft part c1 c2 c3 o)

theorem OutStB_zero (c1 : Memref sig .scVector .vmem S2000 .f32) (c2 c3 : Memref sig .scVector .vmem S2000 .i32) (sm : DmaSem sig) (o : ℕ) :
    OutStB i d r tz sz adj sft part c1 c2 c3 sm 0 o
      = iprop(semVal (thrB d i, .dma sm) 0 ∗ (∃ v, Holds (thrB d i) c1 v) ∗ (∃ v, Holds (thrB d i) c2 v) ∗ ∃ v, Holds (thrB d i) c3 v) := if_pos rfl

theorem OutStB_pos (c1 : Memref sig .scVector .vmem S2000 .f32) (c2 c3 : Memref sig .scVector .vmem S2000 .i32) (sm : DmaSem sig) {t : ℕ} (o : ℕ) (h : t ≠ 0) :
    OutStB i d r tz sz adj sft part c1 c2 c3 sm t o = Fly (thrB d i) (.dma sm) NO 3 3 0 (OutLandedB i d r tz sz adj sft part c1 c2 c3 o) := if_neg h

/-- What the tile owns before trip `t`. -/
def TripInvB (t : ℕ) : sProp 𝕄 :=
  iprop(Holds (thrB d i) b10 tz ∗ Holds (thrB d i) b11 sz
    ∗ Fly (thrB d i) (.dma cc1_scratch17.sem) NA 4 4 0 (InLandedB i d adj sft part b13 b14 b15 b16 q1 q2 r1 p1 (min (baseB i + 4000 * t) 3198000))
    ∗ InFreeB i d adj sft part b20 b21 b22 b23 q3 q4 r2 p2 ∗ semVal (thrB d i, .dma cc1_scratch18.sem) 0
    ∗ OutStB i d r tz sz adj sft part b17 b18 b19 cc1_scratch19.sem t (baseB i + (4000 * t - 4000))
    ∗ OutStB i d r tz sz adj sft part b24 b25 b26 cc1_scratch20.sem t (baseB i + (4000 * t - 2000))
    ∗ doneB i d r tz sz adj sft part (baseB i) (baseB i + (4000 * t - 4000))
    ∗ rowsB i d s0 k0 (baseB i + 4000 * t) (baseB i + 100000)
    ∗ Owed (thrB d i) O W)

/-- The four copies' promises are the landed quadruple. -/
theorem landedB_of (b1 b2 b3 : Memref sig .scVector .vmem S2000 .i32) (b4 : Memref sig .scVector .vmem S2000 .f32) (q q' r p : PosShare TreeShare) (o : ℕ)
    {f1 f2 f3 f4 : Fin 1 → ℕ} (h1 : f1 = ![o]) (h2 : f2 = ![3200000 + o]) (h3 : f3 = ![o]) (h4 : f4 = ![o])
    (n1 : ∀ a, f1 a + S2000.size a ≤ S6400000.size a) (n2 : ∀ a, f2 a + S2000.size a ≤ S6400000.size a)
    (n3 : ∀ a, f3 a + S2000.size a ≤ S3200000.size a) (n4 : ∀ a, f4 a + S2000.size a ≤ S3200000.size a) :
    iprop((((emp ∗ (adjM.view.loc (thrB d i) ↦{q} adj)
          ∗ Holds (thrB d i) b1 ((adjM.slice (Rect.unit (s := S6400000) f1 S2000.size n1) (fun _ => rfl)).view.read (Elt F) adj))
        ∗ (adjM.view.loc (thrB d i) ↦{q'} adj)
          ∗ Holds (thrB d i) b2 ((adjM.slice (Rect.unit (s := S6400000) f2 S2000.size n2) (fun _ => rfl)).view.read (Elt F) adj))
        ∗ (sftM.view.loc (thrB d i) ↦{r} sft)
          ∗ Holds (thrB d i) b3 ((sftM.slice (Rect.unit (s := S3200000) f3 S2000.size n3) (fun _ => rfl)).view.read (Elt F) sft))
        ∗ (partM.view.loc (thrB d i) ↦{p} part)
          ∗ Holds (thrB d i) b4 ((partM.slice (Rect.unit (s := S3200000) f4 S2000.size n4) (fun _ => rfl)).view.read (Elt F) part))
      ⊢ InLandedB i d adj sft part b1 b2 b3 b4 q q' r p o := by
  have e1 : (adjM.slice (Rect.unit (s := S6400000) f1 S2000.size n1) (fun _ => rfl)).view.read (Elt F) adj = chunk pos2E adj o := rect_chunk pos2E adj h1 n1
  have e2 : (adjM.slice (Rect.unit (s := S6400000) f2 S2000.size n2) (fun _ => rfl)).view.read (Elt F) adj = chunk pos2E adj (3200000 + o) := rect_chunk pos2E adj h2 n2
  have e3 : (sftM.slice (Rect.unit (s := S3200000) f3 S2000.size n3) (fun _ => rfl)).view.read (Elt F) sft = chunk posE sft o := rect_chunk posE sft h3 n3
  have e4 : (partM.slice (Rect.unit (s := S3200000) f4 S2000.size n4) (fun _ => rfl)).view.read (Elt F) part = chunk posE part o := rect_chunk posE part h4 n4
  rw [e1, e2, e3, e4]
  unfold InLandedB
  iintro ⟨⟨⟨⟨-, Ha, Hb1⟩, Ha', Hb2⟩, Hs, Hb3⟩, Hp, Hb4⟩
  iframe

/-- The chunk of squared distances from edge `o` on, -/
abbrev sodCh (o : ℕ) : Vec F S2000 .f32 :=
  sodC tz sz (chunk pos2E adj o) (chunk pos2E adj (3200000 + o)) (chunk posE sft o) (chunk posE part o)
/-- and of kept words, of the words `x`. -/
abbrev keepCh (o : ℕ) (x : Vec F S2000 .i32) : Vec F S2000 .i32 :=
  keepC r tz sz (chunk pos2E adj o) (chunk pos2E adj (3200000 + o)) (chunk posE sft o) (chunk posE part o) x

theorem chunk_sodG (o : ℕ) (ho : o + 2000 ≤ 3200000) : chunk posE (sodG tz sz adj sft part) o = sodCh tz sz adj sft part o := by
  funext z
  have hz : (z 0).val < 2000 := (z 0).isLt
  show at1 posE _ (o + (z 0).val) = _
  rw [at1_eq posE _ (o + (z 0).val) (fun a => ⟨o + (z 0).val, by obtain rfl : a = 0 := Subsingleton.elim _ _; show _ < 3200000; omega⟩) fun a => rfl]
  show sodW tz sz _ (at1 pos2E adj (3200000 + (o + (z 0).val))) _ _ = _
  rw [← Nat.add_assoc]
  rfl

theorem chunk_keepI (o : ℕ) (ho : o + 2000 ≤ 3200000) :
    chunk pos2E (keepG r tz sz adj sft part) o = keepCh r tz sz adj sft part o (chunk pos2E adj o) := by
  funext z
  have hz : (z 0).val < 2000 := (z 0).isLt
  have hc := congrFun (chunk_sodG tz sz adj sft part o ho) z
  show at1 pos2E _ (o + (z 0).val) = keepF r (sodCh tz sz adj sft part o z) (at1 pos2E adj (o + (z 0).val))
  rw [← hc]
  show _ = keepF r (at1 posE _ (o + (z 0).val)) _
  rw [at1_eq posE _ (o + (z 0).val) (fun a => ⟨o + (z 0).val, by obtain rfl : a = 0 := Subsingleton.elim _ _; show _ < 3200000; omega⟩) fun a => rfl,
    at1_eq pos2E adj (o + (z 0).val) (fun a => ⟨o + (z 0).val, by obtain rfl : a = 0 := Subsingleton.elim _ _; show _ < 6400000; omega⟩) fun a => rfl,
    at1_eq pos2E (keepG r tz sz adj sft part) (o + (z 0).val) (fun a => ⟨o + (z 0).val, by obtain rfl : a = 0 := Subsingleton.elim _ _; show _ < 6400000; omega⟩) fun a => rfl]
  unfold keepG sodG
  rw [if_pos (show o + (z 0).val < 3200000 by omega)]

theorem chunk_keepJ (o : ℕ) (ho : o + 2000 ≤ 3200000) :
    chunk pos2E (keepG r tz sz adj sft part) (3200000 + o) = keepCh r tz sz adj sft part o (chunk pos2E adj (3200000 + o)) := by
  funext z
  have hz : (z 0).val < 2000 := (z 0).isLt
  have hc := congrFun (chunk_sodG tz sz adj sft part o ho) z
  show at1 pos2E _ (3200000 + o + (z 0).val) = keepF r (sodCh tz sz adj sft part o z) (at1 pos2E adj (3200000 + o + (z 0).val))
  rw [← hc]
  show _ = keepF r (at1 posE _ (o + (z 0).val)) _
  rw [at1_eq posE _ (o + (z 0).val) (fun a => ⟨o + (z 0).val, by obtain rfl : a = 0 := Subsingleton.elim _ _; show _ < 3200000; omega⟩) fun a => rfl,
    at1_eq pos2E adj (3200000 + o + (z 0).val) (fun a => ⟨3200000 + o + (z 0).val, by obtain rfl : a = 0 := Subsingleton.elim _ _; show _ < 6400000; omega⟩) fun a => rfl,
    at1_eq pos2E (keepG r tz sz adj sft part) (3200000 + o + (z 0).val) (fun a => ⟨3200000 + o + (z 0).val, by obtain rfl : a = 0 := Subsingleton.elim _ _; show _ < 6400000; omega⟩) fun a => rfl]
  unfold keepG sodG
  rw [if_neg (show ¬ 3200000 + o + (z 0).val < 3200000 by omega), show 3200000 + o + (z 0).val - 3200000 = o + (z 0).val by omega]

/-- The copies out's promises are their landing. -/
theorem outLandedB_of (c1 : Memref sig .scVector .vmem S2000 .f32) (c2 c3 : Memref sig .scVector .vmem S2000 .i32) (o : ℕ) (ho : o + 2000 ≤ 3200000)
    {f1 f2 f3 : Fin 1 → ℕ} (h1 : f1 = ![o]) (h2 : f2 = ![o]) (h3 : f3 = ![3200000 + o])
    (n1 : ∀ a, f1 a + S2000.size a ≤ S3200000.size a) (n2 : ∀ a, f2 a + S2000.size a ≤ S6400000.size a) (n3 : ∀ a, f3 a + S2000.size a ≤ S6400000.size a) :
    iprop(((emp ∗ Holds (thrB d i) c1 (sodCh tz sz adj sft part o)
        ∗ Covers (thrB d i) (sodM.slice (Rect.unit (s := S3200000) f1 S2000.size n1) (fun _ => rfl)) (sodCh tz sz adj sft part o))
        ∗ Holds (thrB d i) c2 (keepCh r tz sz adj sft part o (chunk pos2E adj o))
        ∗ Covers (thrB d i) (outM.slice (Rect.unit (s := S6400000) f2 S2000.size n2) (fun _ => rfl)) (keepCh r tz sz adj sft part o (chunk pos2E adj o)))
        ∗ Holds (thrB d i) c3 (keepCh r tz sz adj sft part o (chunk pos2E adj (3200000 + o)))
        ∗ Covers (thrB d i) (outM.slice (Rect.unit (s := S6400000) f3 S2000.size n3) (fun _ => rfl))
            (keepCh r tz sz adj sft part o (chunk pos2E adj (3200000 + o))))
      ⊢ OutLandedB i d r tz sz adj sft part c1 c2 c3 o := by
  have e1 : (sodM.slice (Rect.unit (s := S3200000) f1 S2000.size n1) (fun _ => rfl)).view.read (Elt F) (sodG tz sz adj sft part) = sodCh tz sz adj sft part o :=
    (rect_chunk posE (sodG tz sz adj sft part) h1 n1).trans (chunk_sodG tz sz adj sft part o ho)
  have e2 : (outM.slice (Rect.unit (s := S6400000) f2 S2000.size n2) (fun _ => rfl)).view.read (Elt F) (keepG r tz sz adj sft part)
      = keepCh r tz sz adj sft part o (chunk pos2E adj o) :=
    (rect_chunk pos2E (keepG r tz sz adj sft part) h2 n2).trans (chunk_keepI r tz sz adj sft part o ho)
  have e3 : (outM.slice (Rect.unit (s := S6400000) f3 S2000.size n3) (fun _ => rfl)).view.read (Elt F) (keepG r tz sz adj sft part)
      = keepCh r tz sz adj sft part o (chunk pos2E adj (3200000 + o)) :=
    (rect_chunk pos2E (keepG r tz sz adj sft part) h3 n3).trans (chunk_keepJ r tz sz adj sft part o ho)
  have t1 : (sodM.slice (Rect.unit (s := S3200000) f1 S2000.size n1) (fun _ => rfl)).view.set = rng 3200000 o (o + 2000) :=
    (View.set_slice_whole ..).trans (rect_set h1 n1)
  have t2 : (outM.slice (Rect.unit (s := S6400000) f2 S2000.size n2) (fun _ => rfl)).view.set = rng 6400000 o (o + 2000) :=
    (View.set_slice_whole ..).trans (rect_set h2 n2)
  have t3 : (outM.slice (Rect.unit (s := S6400000) f3 S2000.size n3) (fun _ => rfl)).view.set = rng 6400000 (3200000 + o) (3200000 + (o + 2000)) :=
    (View.set_slice_whole ..).trans ((rect_set h3 n3).trans (by rw [Nat.add_assoc 3200000 _ 2000]))
  have g1 := Covers.pts (c := thrB d i) e1
  have g2 := Covers.pts (c := thrB d i) e2
  have g3 := Covers.pts (c := thrB d i) e3
  rw [t1] at g1
  rw [t2] at g2
  rw [t3] at g3
  iintro ⟨⟨⟨-, Hb1, Hc1⟩, Hb2, Hc2⟩, Hb3, Hc3⟩
  unfold OutLandedB doneB rowsB
  isplitl [Hb1]; · iexists _; iexact Hb1
  isplitl [Hb2]; · iexists _; iexact Hb2
  isplitl [Hb3]; · iexists _; iexact Hb3
  isplitl [Hc1]; · iapply g1 $$ Hc1
  isplitl [Hc2]; · iapply g2 $$ Hc2
  iapply g3 $$ Hc3

/-- The guarded waits before the result buffers are filled again: the last trip's copies out have landed, if there were any. -/
theorem flushB (c1 : Memref sig .scVector .vmem S2000 .f32) (c2 c3 : Memref sig .scVector .vmem S2000 .i32) (sm : DmaSem sig) (t o lo hi hi' : ℕ)
    {φ : Prop} [Decidable φ] (hφ : φ ↔ 0 < t) (h0 : t = 0 → hi' = hi) (h1 : 0 < t → lo ≤ hi ∧ o = hi ∧ hi' = hi + 2000)
    {sp1 sp2 sp3 : Space} {s1 s2 s3 : Shape} {e1 e2 e3 : EltTy} {w1 : Memref sig .scVector sp1 s1 e1} {w2 : Memref sig .scVector sp2 s2 e2}
    {w3 : Memref sig .scVector sp3 s3 e3}
    {hs1 : w1.view.WordExact} {hs2 : w2.view.WordExact} {hs3 : w3.view.WordExact} {hd1 : sodZ.view.WordExact} {hd2 : outZ.view.WordExact}
    {hd3 : outZ.view.WordExact} {α : Type}
    {R : Prog (TpuEff nD τ sig (Elt F) Λ₀ (thrB d i).2) α} {Q : α → sProp 𝕄} :
    iprop(OutStB i d r tz sz adj sft part c1 c2 c3 sm t o ∗ doneB i d r tz sz adj sft part lo hi ∗ Owed (thrB d i) O W)
      ⊢ iprop((iprop(semVal (thrB d i, .dma sm) 0 ∗ (∃ v, Holds (thrB d i) c1 v) ∗ (∃ v, Holds (thrB d i) c2 v) ∗ (∃ v, Holds (thrB d i) c3 v)
              ∗ doneB i d r tz sz adj sft part lo hi' ∗ Owed (thrB d i) O W)
            -∗ wp frame (wpE (defs₀ (F := F)) 𝒱₀ (thrB d i) none) Set.univ R Q)
          -∗ wp frame (wpE (defs₀ (F := F)) 𝒱₀ (thrB d i) none) Set.univ
            (if h : φ then Prog.lift (.waitDma2 sm w1 sodZ hs1 hd1) >>= fun _ => Prog.lift (.waitDma2 sm w2 outZ hs2 hd2) >>= fun _ =>
              Prog.lift (.waitDma2 sm w3 outZ hs3 hd3) >>= fun _ => R else R) Q) := by
  by_cases ht : t = 0
  · have hn : ¬ φ := fun h => by have := hφ.mp h; omega
    rw [dif_neg hn, h0 ht, ht, OutStB_zero]
    iintro ⟨⟨Hs, Hb⟩, Hd, HO⟩ HK
    icases Hb with ⟨Hb1, Hb2, Hb3⟩
    iapply HK
    iframe
  · have hp : φ := hφ.mpr (by omega)
    obtain ⟨hle, rfl, rfl⟩ := h1 (by omega)
    rw [dif_pos hp, OutStB_pos _ _ _ _ _ _ _ _ _ _ _ _ _ ht]
    iintro ⟨Hf, Hd, HO⟩ HK
    iapply (step_wait (c := thrB d i) (N := NO) (m := 3) (w := 0) (dstw := sodZ) rfl NO_pos (by decide)) $$ [Hf HO]
    · iframe
    iintro ⟨Hf, HO⟩
    iapply (step_wait (c := thrB d i) (N := NO) (m := 3) (w := 1) (dstw := outZ) rfl NO_pos (by decide)) $$ [Hf HO]
    · iframe
    iintro ⟨Hf, HO⟩
    iapply (step_waitLast (c := thrB d i) (N := NO) (m := 3) (w := 2) (dstw := outZ) rfl NO_pos rfl) $$ [Hf HO]
    · iframe
    iintro ⟨HP, Hs, HO⟩
    iapply HK
    unfold OutLandedB
    icases HP with ⟨Hb1, Hb2, Hb3, Hc⟩
    iframe Hs Hb1 Hb2 Hb3 HO
    iapply (rowsB_join i d _ _ lo o (o + 2000) hle (Nat.le_add_right o 2000))
    iframe

set_option maxHeartbeats 8000000 in
/-- One trip of pass B: two chunks, each fetched while the other is worked on. -/
theorem tripB (hadj : ∀ y, (adj y).toNat < 50000) (hsft : ∀ y, (sft y).toNat < 32) (v2 : BitVec 32) (v3 : Vec F S16 .f32) (hv3 : ∀ x, v3 x = r)
    (t : Fin k1_t1_loop.trips) (acc : Unit) :
    TripInvB i d r tz sz adj sft part s0 k0 q1 q2 q3 q4 r1 r2 p1 p2 O W t.val
      ⊢ wp frame (wpE (defs₀ (F := F)) 𝒱₀ (thrB d i) none) Set.univ
          (k1_t1_body (F := F) i adjM (Memref.isWhole_whole _) sftM (Memref.isWhole_whole _) partM (Memref.isWhole_whole _) tzM (Memref.isWhole_whole _) szM (Memref.isWhole_whole _) rcM (Memref.isWhole_whole _) outM (Memref.isWhole_whole _) sodM (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc1_scratch17 cc1_scratch18 cc1_scratch19 cc1_scratch20 cc1_scoped0 cc1_scoped1 cc1_scoped2 v2 v3 t acc)
          fun _ => TripInvB i d r tz sz adj sft part s0 k0 q1 q2 q3 q4 r1 r2 p1 p2 O W (t.val + 1) := by
  have ht : t.val < 25 := t.isLt
  have hb := baseB_le i
  have hmin : min (baseB i + 4000 * t.val) 3198000 = baseB i + 4000 * t.val := by omega
  unfold TripInvB k1_t1_body
  rw [k1_part1_eq_skeleton, k1_part2_eq_skeleton, hmin]
  unfold k1_part1_skel k1_part2_skel
  simp only [bind_assoc, pure_bind]
  iintro ⟨Htz, Hsz, Hf, Hfree, Hs1, Ho0, Ho1, Hd, Hu, HO⟩
  unfold InFreeB
  icases Hfree with ⟨Hq3, Hq4, Hr2, Hp2, ⟨%w1, Hb1⟩, ⟨%w2, Hb2⟩, ⟨%w3, Hb3⟩, ⟨%w4, Hb4⟩⟩
  imod (fly_start (F := F) (thrB d i) (.dma cc1_scratch18.sem) NA 4) $$ Hs1 with Hg
  iapply (step_issueIn (c := thrB d i) (N := NA) (m := 4) (n := 0) (dst := b20) rfl (by decide)) $$ [Hg Hq3 Hb1]
  · iframe
  iintro Hg
  iapply (step_issueIn (c := thrB d i) (N := NA) (m := 4) (n := 1) (dst := b21) rfl (by decide)) $$ [Hg Hq4 Hb2]
  · iframe
  iintro Hg
  iapply (step_issueIn (c := thrB d i) (N := NA) (m := 4) (n := 2) (dst := b22) rfl (by decide)) $$ [Hg Hr2 Hb3]
  · iframe
  iintro Hg
  iapply (step_issueIn (c := thrB d i) (N := NA) (m := 4) (n := 3) (dst := b23) rfl (by decide)) $$ [Hg Hp2 Hb4]
  · iframe
  iintro Hg
  ihave Hg := (Fly.mono (landedB_of i d adj sft part b20 b21 b22 b23 q3 q4 r2 p2 (baseB i + 4000 * t.val + 2000) (k1_off4_eq i t)
    ((k1_off5_eq i t).trans (congrArg (fun x => ![x]) (by unfold baseB; omega))) (k1_off6_eq i t) (k1_off6_eq i t) _ _ _ _)) $$ Hg
  iapply (step_wait (c := thrB d i) (N := NA) (m := 4) (w := 0) (dstw := b13) rfl NA_pos (by decide)) $$ [Hf HO]
  · iframe
  iintro ⟨Hf, HO⟩
  iapply (step_wait (c := thrB d i) (N := NA) (m := 4) (w := 1) (dstw := b14) rfl NA_pos (by decide)) $$ [Hf HO]
  · iframe
  iintro ⟨Hf, HO⟩
  iapply (step_wait (c := thrB d i) (N := NA) (m := 4) (w := 2) (dstw := b15) rfl NA_pos (by decide)) $$ [Hf HO]
  · iframe
  iintro ⟨Hf, HO⟩
  iapply (step_waitLast (c := thrB d i) (N := NA) (m := 4) (w := 3) (dstw := b16) rfl NA_pos rfl) $$ [Hf HO]
  · iframe
  unfold InLandedB
  iintro ⟨⟨Hq1, Hq2, Hr1, Hp1, Hb1, Hb2, Hb3, Hb4⟩, Hs0, HO⟩
  rw [wp_bind]
  iapply (flushB i d r tz sz adj sft part O W b17 b18 b19 cc1_scratch19.sem t.val (baseB i + (4000 * t.val - 4000)) (baseB i) (baseB i + (4000 * t.val - 4000)) (baseB i + (4000 * t.val - 2000))
    (guard_iff t) (by intro h; omega) (by intro h; omega)) $$ [Ho0 Hd HO]
  · iframe
  iintro ⟨Hso, ⟨%w5, Hb5⟩, ⟨%w6, Hb6⟩, ⟨%w7, Hb7⟩, Hd, HO⟩
  rw [← wp_bind]
  simp only [bind_assoc, pure_bind]
  iapply (Scf.wp_for_bind frame (wpE (defs₀ (F := F)) 𝒱₀ (thrB d i) none) Set.univ k1_t2_loop.lb k1_t2_loop.ub k1_t2_loop.st k1_t2_ok ⟨⟩ _
      (fun k _ => InvB i b10 b11 b13 b14 b15 b16 b17 b18 b19 d r tz sz (chunk pos2E adj (baseB i + 4000 * t.val)) (chunk pos2E adj (3200000 + (baseB i + 4000 * t.val))) (chunk posE sft (baseB i + 4000 * t.val)) (chunk posE part (baseB i + 4000 * t.val)) w5 w6 w7 k)
      (fun k acc => groupB i adjM (Memref.isWhole_whole _) sftM (Memref.isWhole_whole _) partM (Memref.isWhole_whole _) tzM (Memref.isWhole_whole _) szM (Memref.isWhole_whole _) rcM (Memref.isWhole_whole _) outM (Memref.isWhole_whole _) sodM (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc1_scratch17 cc1_scratch18 cc1_scratch19 cc1_scratch20 cc1_scoped0 cc1_scoped1 cc1_scoped2 v2 0#32 1#32 t d r v3 hv3 tz sz _ _ _ _ w5 w6 w7
        (chunk_lt pos2E hadj _) (chunk_lt pos2E hadj _) (chunk_lt posE hsft _) k acc)) $$ [Htz Hsz Hb1 Hb2 Hb3 Hb4 Hb5 Hb6 Hb7]
  · unfold InvB
    rw [mix_zero, mix_zero, mix_zero]
    iframe
  iintro %_ HI
  unfold InvB
  icases HI with ⟨Htz, Hsz, Hb1, Hb2, Hb3, Hb4, Hb5, Hb6, Hb7⟩
  rw [show Scf.trips k1_t2_loop.lb k1_t2_loop.ub k1_t2_loop.st = 125 from rfl, mix_full, mix_full, mix_full]
  icases (rowsB_take i d s0 k0 (baseB i + 4000 * t.val) (baseB i + 100000) (by omega)) $$ Hu with ⟨⟨Hc1, Hc2, Hc3⟩, Hu⟩
  imod (fly_start (F := F) (thrB d i) (.dma cc1_scratch19.sem) NO 3) $$ Hso with Hw
  rw [← show (sodM.slice (Rect.unit (s := S3200000) (k1_off9 i t) S2000.size (k1_off9_inb i t)) (fun _ => rfl)).view.set = rng 3200000 (baseB i + 4000 * t.val) (baseB i + 4000 * t.val + 2000) from
    (View.set_slice_whole ..).trans (rect_set (k1_off9_eq i t) _)]
  iapply (step_issueOut (c := thrB d i) (N := NO) (m := 3) (n := 0) (src := b17) (g := s0) rfl (by decide)) $$ [Hw Hb5 Hc1]
  · iframe
  iintro Hw
  rw [← show (outM.slice (Rect.unit (s := S6400000) (k1_off10 i t) S2000.size (k1_off10_inb i t)) (fun _ => rfl)).view.set = rng 6400000 (baseB i + 4000 * t.val) (baseB i + 4000 * t.val + 2000) from
    (View.set_slice_whole ..).trans (rect_set (k1_off10_eq i t) _)]
  iapply (step_issueOut (c := thrB d i) (N := NO) (m := 3) (n := 1) (src := b18) (g := k0) rfl (by decide)) $$ [Hw Hb6 Hc2]
  · iframe
  iintro Hw
  rw [← show (outM.slice (Rect.unit (s := S6400000) (k1_off11 i t) S2000.size (k1_off11_inb i t)) (fun _ => rfl)).view.set = rng 6400000 (3200000 + (baseB i + 4000 * t.val)) (3200000 + (baseB i + 4000 * t.val + 2000)) from
    (View.set_slice_whole ..).trans ((rect_set (show k1_off11 i t = ![3200000 + (baseB i + 4000 * t.val)] from (k1_off11_eq i t).trans (congrArg (fun x => ![x]) (by unfold baseB; omega))) _).trans (by rw [Nat.add_assoc 3200000 _ 2000]))]
  iapply (step_issueOut (c := thrB d i) (N := NO) (m := 3) (n := 2) (src := b19) (g := k0) rfl (by decide)) $$ [Hw Hb7 Hc3]
  · iframe
  iintro Hw
  ihave Ho0 := (Fly.mono (outLandedB_of i d r tz sz adj sft part b17 b18 b19 (baseB i + 4000 * t.val) (by omega) (k1_off9_eq i t) (k1_off10_eq i t)
    ((k1_off11_eq i t).trans (congrArg (fun x => ![x]) (by unfold baseB; omega))) _ _ _)) $$ Hw
  imod (fly_start (F := F) (thrB d i) (.dma cc1_scratch17.sem) NA 4) $$ Hs0 with Hf
  iapply (step_issueIn (c := thrB d i) (N := NA) (m := 4) (n := 0) (dst := b13) rfl (by decide)) $$ [Hf Hq1 Hb1]
  · iframe
  iintro Hf
  iapply (step_issueIn (c := thrB d i) (N := NA) (m := 4) (n := 1) (dst := b14) rfl (by decide)) $$ [Hf Hq2 Hb2]
  · iframe
  iintro Hf
  iapply (step_issueIn (c := thrB d i) (N := NA) (m := 4) (n := 2) (dst := b15) rfl (by decide)) $$ [Hf Hr1 Hb3]
  · iframe
  iintro Hf
  iapply (step_issueIn (c := thrB d i) (N := NA) (m := 4) (n := 3) (dst := b16) rfl (by decide)) $$ [Hf Hp1 Hb4]
  · iframe
  iintro Hf
  ihave Hf := (Fly.mono (landedB_of i d adj sft part b13 b14 b15 b16 q1 q2 r1 p1 (min (baseB i + 4000 * (t.val + 1)) 3198000)
    ((k1_off12_eq i t).trans (congrArg (fun x => ![x]) (by unfold baseB; omega))) ((k1_off13_eq i t).trans (congrArg (fun x => ![x]) (by unfold baseB; omega)))
    ((k1_off14_eq i t).trans (congrArg (fun x => ![x]) (by unfold baseB; omega))) ((k1_off14_eq i t).trans (congrArg (fun x => ![x]) (by unfold baseB; omega))) _ _ _ _)) $$ Hf
  iapply (step_wait (c := thrB d i) (N := NA) (m := 4) (w := 0) (dstw := b20) rfl NA_pos (by decide)) $$ [Hg HO]
  · iframe
  iintro ⟨Hg, HO⟩
  iapply (step_wait (c := thrB d i) (N := NA) (m := 4) (w := 1) (dstw := b21) rfl NA_pos (by decide)) $$ [Hg HO]
  · iframe
  iintro ⟨Hg, HO⟩
  iapply (step_wait (c := thrB d i) (N := NA) (m := 4) (w := 2) (dstw := b22) rfl NA_pos (by decide)) $$ [Hg HO]
  · iframe
  iintro ⟨Hg, HO⟩
  iapply (step_waitLast (c := thrB d i) (N := NA) (m := 4) (w := 3) (dstw := b23) rfl NA_pos rfl) $$ [Hg HO]
  · iframe
  unfold InLandedB
  iintro ⟨⟨Hq3, Hq4, Hr2, Hp2, Hb1, Hb2, Hb3, Hb4⟩, Hs1, HO⟩
  rw [wp_bind]
  iapply (flushB i d r tz sz adj sft part O W b24 b25 b26 cc1_scratch20.sem t.val (baseB i + (4000 * t.val - 2000)) (baseB i) (baseB i + (4000 * t.val - 2000)) (baseB i + 4000 * t.val)
    (guard_iff t) (by intro h; omega) (by intro h; omega)) $$ [Ho1 Hd HO]
  · iframe
  iintro ⟨Hso, ⟨%w5, Hb5⟩, ⟨%w6, Hb6⟩, ⟨%w7, Hb7⟩, Hd, HO⟩
  rw [← wp_bind]
  simp only [bind_assoc, pure_bind]
  iapply (Scf.wp_for_bind frame (wpE (defs₀ (F := F)) 𝒱₀ (thrB d i) none) Set.univ k1_t3_loop.lb k1_t3_loop.ub k1_t3_loop.st k1_t3_ok ⟨⟩ _
      (fun k _ => InvB i b10 b11 b20 b21 b22 b23 b24 b25 b26 d r tz sz (chunk pos2E adj (baseB i + 4000 * t.val + 2000)) (chunk pos2E adj (3200000 + (baseB i + 4000 * t.val + 2000))) (chunk posE sft (baseB i + 4000 * t.val + 2000)) (chunk posE part (baseB i + 4000 * t.val + 2000)) w5 w6 w7 k)
      (fun k acc => groupB i adjM (Memref.isWhole_whole _) sftM (Memref.isWhole_whole _) partM (Memref.isWhole_whole _) tzM (Memref.isWhole_whole _) szM (Memref.isWhole_whole _) rcM (Memref.isWhole_whole _) outM (Memref.isWhole_whole _) sodM (Memref.isWhole_whole _) b10 (Memref.isWhole_whole _) b11 (Memref.isWhole_whole _) b12 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc1_scratch17 cc1_scratch18 cc1_scratch19 cc1_scratch20 cc1_scoped0 cc1_scoped1 cc1_scoped2 v2 0#32 1#32 t d r v3 hv3 tz sz _ _ _ _ w5 w6 w7
        (chunk_lt pos2E hadj _) (chunk_lt pos2E hadj _) (chunk_lt posE hsft _) k acc)) $$ [Htz Hsz Hb1 Hb2 Hb3 Hb4 Hb5 Hb6 Hb7]
  · unfold InvB
    rw [mix_zero, mix_zero, mix_zero]
    iframe
  iintro %_ HI
  unfold InvB
  icases HI with ⟨Htz, Hsz, Hb1, Hb2, Hb3, Hb4, Hb5, Hb6, Hb7⟩
  rw [show Scf.trips k1_t3_loop.lb k1_t3_loop.ub k1_t3_loop.st = 125 from rfl, mix_full, mix_full, mix_full]
  icases (rowsB_take i d s0 k0 (baseB i + 4000 * t.val + 2000) (baseB i + 100000) (by omega)) $$ Hu with ⟨⟨Hc1, Hc2, Hc3⟩, Hu⟩
  imod (fly_start (F := F) (thrB d i) (.dma cc1_scratch20.sem) NO 3) $$ Hso with Hw
  rw [← show (sodM.slice (Rect.unit (s := S3200000) (k1_off6 i t) S2000.size (k1_off6_inb i t)) (fun _ => rfl)).view.set = rng 3200000 (baseB i + 4000 * t.val + 2000) (baseB i + 4000 * t.val + 2000 + 2000) from
    (View.set_slice_whole ..).trans (rect_set (k1_off6_eq i t) _)]
  iapply (step_issueOut (c := thrB d i) (N := NO) (m := 3) (n := 0) (src := b24) (g := s0) rfl (by decide)) $$ [Hw Hb5 Hc1]
  · iframe
  iintro Hw
  rw [← show (outM.slice (Rect.unit (s := S6400000) (k1_off4 i t) S2000.size (k1_off4_inb i t)) (fun _ => rfl)).view.set = rng 6400000 (baseB i + 4000 * t.val + 2000) (baseB i + 4000 * t.val + 2000 + 2000) from
    (View.set_slice_whole ..).trans (rect_set (k1_off4_eq i t) _)]
  iapply (step_issueOut (c := thrB d i) (N := NO) (m := 3) (n := 1) (src := b25) (g := k0) rfl (by decide)) $$ [Hw Hb6 Hc2]
  · iframe
  iintro Hw
  rw [← show (outM.slice (Rect.unit (s := S6400000) (k1_off5 i t) S2000.size (k1_off5_inb i t)) (fun _ => rfl)).view.set = rng 6400000 (3200000 + (baseB i + 4000 * t.val + 2000)) (3200000 + (baseB i + 4000 * t.val + 2000 + 2000)) from
    (View.set_slice_whole ..).trans ((rect_set (show k1_off5 i t = ![3200000 + (baseB i + 4000 * t.val + 2000)] from (k1_off5_eq i t).trans (congrArg (fun x => ![x]) (by unfold baseB; omega))) _).trans (by rw [Nat.add_assoc 3200000 _ 2000]))]
  iapply (step_issueOut (c := thrB d i) (N := NO) (m := 3) (n := 2) (src := b26) (g := k0) rfl (by decide)) $$ [Hw Hb7 Hc3]
  · iframe
  iintro Hw
  ihave Ho1 := (Fly.mono (outLandedB_of i d r tz sz adj sft part b24 b25 b26 (baseB i + 4000 * t.val + 2000) (by omega) (k1_off6_eq i t) (k1_off4_eq i t)
    ((k1_off5_eq i t).trans (congrArg (fun x => ![x]) (by unfold baseB; omega))) _ _ _)) $$ Hw
  sl_step
  rw [OutStB_pos _ _ _ _ _ _ _ _ _ _ _ _ _ (Nat.succ_ne_zero _), OutStB_pos _ _ _ _ _ _ _ _ _ _ _ _ _ (Nat.succ_ne_zero _),
    show baseB i + (4000 * (t.val + 1) - 4000) = baseB i + 4000 * t.val by omega,
    show baseB i + (4000 * (t.val + 1) - 2000) = baseB i + 4000 * t.val + 2000 by omega,
    show baseB i + 4000 * (t.val + 1) = baseB i + 4000 * t.val + 2000 + 2000 by omega]
  iframe
  isplitl [Hb1]; · iexists _; iexact Hb1
  isplitl [Hb2]; · iexists _; iexact Hb2
  isplitl [Hb3]; · iexists _; iexact Hb3
  iexists _; iexact Hb4

/-- The tile's scratch buffers and semaphores, as a run of the body finds and leaves them. -/
def ScratchB : sProp 𝕄 :=
  iprop((∃ v, Holds (thrB d i) b10 v) ∗ (∃ v, Holds (thrB d i) b11 v) ∗ (∃ v, Holds (thrB d i) b12 v) ∗ (∃ v, Holds (thrB d i) b13 v) ∗ (∃ v, Holds (thrB d i) b14 v) ∗ (∃ v, Holds (thrB d i) b15 v) ∗ (∃ v, Holds (thrB d i) b16 v) ∗ (∃ v, Holds (thrB d i) b17 v) ∗ (∃ v, Holds (thrB d i) b18 v) ∗ (∃ v, Holds (thrB d i) b19 v) ∗ (∃ v, Holds (thrB d i) b20 v) ∗ (∃ v, Holds (thrB d i) b21 v) ∗ (∃ v, Holds (thrB d i) b22 v) ∗ (∃ v, Holds (thrB d i) b23 v) ∗ (∃ v, Holds (thrB d i) b24 v) ∗ (∃ v, Holds (thrB d i) b25 v) ∗ (∃ v, Holds (thrB d i) b26 v)
    ∗ semVal (thrB d i, .dma cc1_scratch17.sem) 0 ∗ semVal (thrB d i, .dma cc1_scratch18.sem) 0 ∗ semVal (thrB d i, .dma cc1_scratch19.sem) 0 ∗ semVal (thrB d i, .dma cc1_scratch20.sem) 0 ∗ semVal (thrB d i, .dma cc1_scoped0.sem) 0 ∗ semVal (thrB d i, .dma cc1_scoped1.sem) 0 ∗ semVal (thrB d i, .dma cc1_scoped2.sem) 0)

/-- The arrays the tile reads, each at the shares its copies take. -/
def ReadB (u : PosShare TreeShare) : sProp 𝕄 :=
  iprop((tzM.view.loc (thrB d i) ↦{u} tz) ∗ (szM.view.loc (thrB d i) ↦{u} sz) ∗ (rcM.view.loc (thrB d i) ↦{u} fun _ => r)
    ∗ (adjM.view.loc (thrB d i) ↦{q1} adj) ∗ (adjM.view.loc (thrB d i) ↦{q2} adj) ∗ (adjM.view.loc (thrB d i) ↦{q3} adj)
    ∗ (adjM.view.loc (thrB d i) ↦{q4} adj) ∗ (sftM.view.loc (thrB d i) ↦{r1} sft) ∗ (sftM.view.loc (thrB d i) ↦{r2} sft)
    ∗ (partM.view.loc (thrB d i) ↦{p1} part) ∗ (partM.view.loc (thrB d i) ↦{p2} part))

set_option maxHeartbeats 8000000 in
/-- Pass B's body on one tile leaves the tile's rows of the results. -/
theorem tileB (hadj : ∀ y, (adj y).toNat < 50000) (hsft : ∀ y, (sft y).toNat < 32) (u : PosShare TreeShare) :
    iprop(ReadB i d r tz sz adj sft part q1 q2 q3 q4 r1 r2 p1 p2 u ∗ rowsB i d s0 k0 (baseB i) (baseB i + 100000)
        ∗ ScratchB (F := F) i d ∗ Owed (thrB d i) O W)
      ⊢ wp frame (wpE (defs₀ (F := F)) 𝒱₀ (thrB d i) none) Set.univ
          (cc1__pass_b_body (F := F) i adjM (Memref.isWhole_whole _) sftM (Memref.isWhole_whole _) partM (Memref.isWhole_whole _) tzM (Memref.isWhole_whole _) szM (Memref.isWhole_whole _) rcM (Memref.isWhole_whole _) outM (Memref.isWhole_whole _) sodM (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc1_scratch17 cc1_scratch18 cc1_scratch19 cc1_scratch20 cc1_scoped0 cc1_scoped1 cc1_scoped2)
          fun _ => iprop(ReadB i d r tz sz adj sft part q1 q2 q3 q4 r1 r2 p1 p2 u ∗ doneB i d r tz sz adj sft part (baseB i) (baseB i + 100000)
            ∗ ScratchB (F := F) i d ∗ Owed (thrB d i) O W) := by
  have hb := baseB_le i
  rw [cc1__pass_b_body_eq_skeleton]
  unfold ReadB ScratchB cc1__pass_b_body_skel
  rw [k1_part3_eq_skeleton]
  unfold k1_part3_skel
  simp only [bind_assoc, pure_bind]
  iintro ⟨⟨Htz, Hsz, Hrc, Hq1, Hq2, Hq3, Hq4, Hr1, Hr2, Hp1, Hp2⟩, Hu, ⟨⟨%v10, H10⟩, ⟨%v11, H11⟩, ⟨%v12, H12⟩, ⟨%v13, H13⟩, ⟨%v14, H14⟩, ⟨%v15, H15⟩,
    ⟨%v16, H16⟩, H17, H18, H19, H20, H21, H22, H23, H24, H25, H26, Hs0, Hs1, Hs2, Hs3, Ht0, Ht1, Ht2⟩, HO⟩
  iapply (copyIn (c := thrB d i) (dst := b10) (by decide)) $$ [Ht0 Htz H10 HO]
  · iframe
  iintro ⟨Ht0, Htz, H10, HO⟩
  iapply (copyIn (c := thrB d i) (dst := b11) (by decide)) $$ [Ht1 Hsz H11 HO]
  · iframe
  iintro ⟨Ht1, Hsz, H11, HO⟩
  iapply (copyIn (c := thrB d i) (dst := b12) (by decide)) $$ [Ht2 Hrc H12 HO]
  · iframe
  iintro ⟨Ht2, Hrc, H12, HO⟩
  iapply (step_load (c := thrB d i) b12 rfl (by decide)) $$ H12; iintro H12
  imod (fly_start (F := F) (thrB d i) (.dma cc1_scratch17.sem) NA 4) $$ Hs0 with Hf
  iapply (step_issueIn (c := thrB d i) (N := NA) (m := 4) (n := 0) (dst := b13) rfl (by decide)) $$ [Hf Hq1 H13]
  · iframe
  iintro Hf
  iapply (step_issueIn (c := thrB d i) (N := NA) (m := 4) (n := 1) (dst := b14) rfl (by decide)) $$ [Hf Hq2 H14]
  · iframe
  iintro Hf
  iapply (step_issueIn (c := thrB d i) (N := NA) (m := 4) (n := 2) (dst := b15) rfl (by decide)) $$ [Hf Hr1 H15]
  · iframe
  iintro Hf
  iapply (step_issueIn (c := thrB d i) (N := NA) (m := 4) (n := 3) (dst := b16) rfl (by decide)) $$ [Hf Hp1 H16]
  · iframe
  iintro Hf
  ihave Hf := (Fly.mono (landedB_of i d adj sft part b13 b14 b15 b16 q1 q2 r1 p1 (min (baseB i + 4000 * 0) 3198000) ((k1_off1_eq i).trans (congrArg (fun x => ![x]) (by have h := baseB_le i; unfold baseB at h ⊢; omega)))
    ((k1_off2_eq i).trans (congrArg (fun x => ![x]) (by have h := baseB_le i; unfold baseB at h ⊢; omega))) ((k1_off3_eq i).trans (congrArg (fun x => ![x]) (by have h := baseB_le i; unfold baseB at h ⊢; omega))) ((k1_off3_eq i).trans (congrArg (fun x => ![x]) (by have h := baseB_le i; unfold baseB at h ⊢; omega))) _ _ _ _)) $$ Hf
  iapply (Scf.wp_for_bind frame (wpE (defs₀ (F := F)) 𝒱₀ (thrB d i) none) Set.univ k1_t1_loop.lb k1_t1_loop.ub k1_t1_loop.st k1_t1_ok ⟨⟩ _
      (fun t _ => TripInvB i d r tz sz adj sft part s0 k0 q1 q2 q3 q4 r1 r2 p1 p2 O W t)
      (fun t acc => tripB i d r tz sz adj sft part s0 k0 q1 q2 q3 q4 r1 r2 p1 p2 O W hadj hsft _ _ (fun _ => rfl) t acc)) $$ [H10 H11 Hf Hq3 Hq4 Hr2 Hp2 H20 H21 H22 H23 Hs1 Hs2 H17 H18 H19 Hs3 H24 H25 H26 Hu HO]
  · unfold TripInvB InFreeB
    rw [OutStB_zero, OutStB_zero, show baseB i + (4000 * 0 - 4000) = baseB i from rfl,
      show tzM.view.read (Elt F) tz = tz from rfl, show szM.view.read (Elt F) sz = sz from rfl]
    iframe
    iapply (rowsB_self i d _ _ (baseB i))
    iempintro
  iintro %_ HI
  unfold TripInvB InFreeB
  rw [show Scf.trips k1_t1_loop.lb k1_t1_loop.ub k1_t1_loop.st = 25 from rfl,
    OutStB_pos _ _ _ _ _ _ _ _ _ _ _ _ _ (by decide : 25 ≠ 0), OutStB_pos _ _ _ _ _ _ _ _ _ _ _ _ _ (by decide : 25 ≠ 0)]
  icases HI with ⟨H10, H11, Hf, ⟨Hq3, Hq4, Hr2, Hp2, H20, H21, H22, H23⟩, Hs1, Ho0, Ho1, Hd, -, HO⟩
  iapply (step_wait (c := thrB d i) (N := NA) (m := 4) (w := 0) (dstw := b13) rfl NA_pos (by decide)) $$ [Hf HO]
  · iframe
  iintro ⟨Hf, HO⟩
  iapply (step_wait (c := thrB d i) (N := NA) (m := 4) (w := 1) (dstw := b14) rfl NA_pos (by decide)) $$ [Hf HO]
  · iframe
  iintro ⟨Hf, HO⟩
  iapply (step_wait (c := thrB d i) (N := NA) (m := 4) (w := 2) (dstw := b15) rfl NA_pos (by decide)) $$ [Hf HO]
  · iframe
  iintro ⟨Hf, HO⟩
  iapply (step_waitLast (c := thrB d i) (N := NA) (m := 4) (w := 3) (dstw := b16) rfl NA_pos rfl) $$ [Hf HO]
  · iframe
  unfold InLandedB
  iintro ⟨⟨Hq1, Hq2, Hr1, Hp1, H13, H14, H15, H16⟩, Hs0, HO⟩
  iapply (step_wait (c := thrB d i) (N := NO) (m := 3) (w := 0) (dstw := sodZ) rfl NO_pos (by decide)) $$ [Ho0 HO]
  · iframe
  iintro ⟨Ho0, HO⟩
  iapply (step_wait (c := thrB d i) (N := NO) (m := 3) (w := 1) (dstw := outZ) rfl NO_pos (by decide)) $$ [Ho0 HO]
  · iframe
  iintro ⟨Ho0, HO⟩
  iapply (step_waitLast (c := thrB d i) (N := NO) (m := 3) (w := 2) (dstw := outZ) rfl NO_pos rfl) $$ [Ho0 HO]
  · iframe
  iintro ⟨HP, Hs2, HO⟩
  iapply (step_wait (c := thrB d i) (N := NO) (m := 3) (w := 0) (dstw := sodZ) rfl NO_pos (by decide)) $$ [Ho1 HO]
  · iframe
  iintro ⟨Ho1, HO⟩
  iapply (step_wait (c := thrB d i) (N := NO) (m := 3) (w := 1) (dstw := outZ) rfl NO_pos (by decide)) $$ [Ho1 HO]
  · iframe
  iintro ⟨Ho1, HO⟩
  iapply (step_waitLast (c := thrB d i) (N := NO) (m := 3) (w := 2) (dstw := outZ) rfl NO_pos rfl) $$ [Ho1 HO]
  · iframe
  iintro ⟨HP', Hs3, HO⟩
  unfold OutLandedB
  icases HP with ⟨H17, H18, H19, Hc⟩
  icases HP' with ⟨H24, H25, H26, Hc'⟩
  sl_step
  iframe Htz Hsz Hrc Hq1 Hq2 Hq3 Hq4 Hr1 Hr2 Hp1 Hp2 H17 H18 H19 H20 H21 H22 H23 H24 H25 H26 Hs0 Hs1 Hs2 Hs3 Ht0 Ht1 Ht2 HO
  isplitl [Hd Hc Hc']
  · iapply (rowsB_join i d _ _ (baseB i) (baseB i + (4000 * 25 - 2000)) _ (by omega) (by omega))
    iframe Hc'
    iapply (rowsB_join i d _ _ (baseB i) (baseB i + (4000 * 25 - 4000)) _ (by omega) (by omega))
    iframe
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end TripB

end Cert.Proof.Edges
-- ==== Proof.Scratch.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import Idealize.ShloMosaic.Lib.ShareLeaves
public import proofs.«01_k».proof.Proof.Gen.KernelIdeal
public import proofs.«01_k».proof.Proof.Gen.KernelIdeal.Skeleton
public import proofs.«01_k».proof.Proof.PassB

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F]

/-! ## Taking a list of items out of a big separating conjunction -/

/-- The items of a list, then the rest. -/
def sepList : List (sProp 𝕄) → sProp 𝕄 → sProp 𝕄
  | [], R => R
  | a :: l, R => iprop(a ∗ sepList l R)

/-- A big separating conjunction is the items of a list of distinct members, and the rest's. -/
theorem carve {α : Type} [DecidableEq α] (Φ : α → sProp 𝕄) : ∀ (l : List α) (S : Finset α), l.Nodup → (∀ x ∈ l, x ∈ S) →
    bigSep S Φ = sepList (l.map Φ) (bigSep (S \ l.toFinset) Φ)
  | [], S, _, _ => by rw [List.toFinset_nil, Finset.sdiff_empty]; rfl
  | x :: l, S, hn, hm => by
    have h := carve Φ l (S.erase x) (List.nodup_cons.mp hn).2 fun y hy =>
      Finset.mem_erase.mpr ⟨fun e => (List.nodup_cons.mp hn).1 (e ▸ hy), hm y (List.mem_cons_of_mem _ hy)⟩
    rw [SparseCore.bigSep_erase' (hm x List.mem_cons_self), h,
      show S.erase x \ l.toFinset = S \ (x :: l).toFinset by
        ext y; simp only [Finset.mem_sdiff, Finset.mem_erase, List.mem_toFinset, List.mem_cons]; tauto]
    rfl

/-- A tile's own buffers are those of a list, each at some contents, and the rest. -/
theorem ownBufs_carve (d : Dev nD) (c : Fin τ.nSC) (s : Fin τ.nSub) (l : List (Ref sig .scVector)) (hn : l.Nodup)
    (ho : ∀ r ∈ l, ((Proc.scVector c s).devRef r).owner = .proc (.scVector c s)) :
    (ownBufs (V d c s) : sProp 𝕄) = sepList ((l.map (Proc.scVector c s).devRef).map fun b => iprop(∃ f, ((d, b) : Loc nD τ sig) ↦{fullShare} f))
      (bigSep (ownRefs (.scVector c s) \ (l.map (Proc.scVector c s).devRef).toFinset) fun b => iprop(∃ f, ((d, b) : Loc nD τ sig) ↦{fullShare} f)) := by
  unfold SparseCore.Cfg.ownBufs
  refine carve _ _ _ (hn.map (Proc.devRef_injective _)) fun b hb => ?_
  obtain ⟨r, hr, rfl⟩ := List.mem_map.mp hb
  exact SparseCore.Cfg.mem_ownRefs_of_owner (ho r hr)

/-- A tile's own semaphores at zero are those of a list, and the rest. -/
theorem ownSems_carve (d : Dev nD) (c : Fin τ.nSC) (s : Fin τ.nSub) (l : List (SemLoc sig)) (hn : l.Nodup)
    (ho : ∀ x ∈ l, x.isScoped .scVector = true) :
    (ownSems0 (V d c s) : sProp 𝕄) = sepList ((l.map fun x => ((V d c s, x) : GSem nD τ sig)).map fun g => semVal g 0)
      (bigSep (ownCells (V d c s) \ (l.map fun x => ((V d c s, x) : GSem nD τ sig)).toFinset) fun g => semVal g 0) := by
  unfold SparseCore.Cfg.ownSems0
  refine carve _ _ _ (hn.map fun a b h => congrArg Prod.snd h) fun g hg => ?_
  obtain ⟨x, hx, rfl⟩ := List.mem_map.mp hg
  exact mem_ownCells.mpr ⟨rfl, ho x hx⟩

/-- A whole buffer held at some value is held at some contents. -/
theorem holds_some (c : Thread nD τ) {sp : Space} {s : Shape} {e : EltTy} (b : Memref sig c.2.kind sp s e) :
    iprop(∃ f, b.view.loc c ↦{fullShare} f) ⊢ (iprop(∃ v, Holds (F := F) c b v) : sProp 𝕄) := by
  unfold Holds
  iintro ⟨%f, H⟩
  iexists _; iexists f
  isplitr; · ipureintro; rfl
  iexact H

theorem some_holds (c : Thread nD τ) {sp : Space} {s : Shape} {e : EltTy} (b : Memref sig c.2.kind sp s e) :
    (iprop(∃ v, Holds (F := F) c b v) : sProp 𝕄) ⊢ iprop(∃ f, b.view.loc c ↦{fullShare} f) := by
  unfold Holds
  iintro ⟨%v, %f, -, H⟩
  iexists f; iexact H

/-- Kernel 0's scratch buffers and semaphores. -/
def refsA : List (Ref sig .scVector) := [(cc0_scratch0 : Ref sig .scVector), (cc0_scratch1 : Ref sig .scVector), (cc0_scratch2 : Ref sig .scVector), (cc0_scratch3 : Ref sig .scVector), (cc0_scratch4 : Ref sig .scVector), (cc0_scratch5 : Ref sig .scVector), (cc0_scratch6 : Ref sig .scVector), (cc0_scratch7 : Ref sig .scVector), (cc0_scratch8 : Ref sig .scVector), (cc0_scratch9 : Ref sig .scVector), (cc0_scratch10 : Ref sig .scVector), (cc0_scratch11 : Ref sig .scVector)]
def semsA : List (SemLoc sig) := [(SemLoc.dma cc0_scratch12.sem : SemLoc sig), (SemLoc.dma cc0_scratch13.sem : SemLoc sig), (SemLoc.dma cc0_scratch14.sem : SemLoc sig), (SemLoc.dma cc0_scratch15.sem : SemLoc sig), (SemLoc.dma cc0_scoped0.sem : SemLoc sig), (SemLoc.dma cc0_scoped1.sem : SemLoc sig), (SemLoc.dma cc0_scoped2.sem : SemLoc sig), (SemLoc.dma cc0_scoped3.sem : SemLoc sig)]

/-- The tile's own buffers other than kernel 0's scratch. -/
def restBufsA (i : grid0.Coords) (d : Dev nD) : sProp 𝕄 :=
  bigSep (ownRefs (thrA d i).2 \ (refsA.map (thrA d i).2.devRef).toFinset) fun b => iprop(∃ f, ((d, b) : Loc nD τ sig) ↦{fullShare} f)
/-- The tile's own semaphores other than kernel 0's. -/
def restSemsA (i : grid0.Coords) (d : Dev nD) : sProp 𝕄 :=
  bigSep (ownCells (thrA d i) \ (semsA.map fun x => ((thrA d i, x) : GSem nD τ sig)).toFinset) fun g => semVal g 0

theorem ownBufsA (i : grid0.Coords) (d : Dev nD) :
    (ownBufs (thrA d i) : sProp 𝕄) = sepList ((refsA.map (thrA d i).2.devRef).map fun b => iprop(∃ f, ((d, b) : Loc nD τ sig) ↦{fullShare} f)) (restBufsA i d) :=
  ownBufs_carve d _ _ refsA (by decide) (by
    intro r hr
    simp only [refsA, List.mem_cons, List.not_mem_nil, or_false] at hr
    rcases hr with rfl | rfl | rfl | rfl | rfl | rfl | rfl | rfl | rfl | rfl | rfl | rfl <;> rfl)

theorem ownSemsA (i : grid0.Coords) (d : Dev nD) :
    (ownSems0 (thrA d i) : sProp 𝕄) = sepList ((semsA.map fun x => ((thrA d i, x) : GSem nD τ sig)).map fun g => semVal g 0) (restSemsA i d) :=
  ownSems_carve d _ _ semsA (by decide) (by decide)

/-- The tile's own buffers and semaphores are the scratch and the rest: taking the scratch out, -/
theorem scratchA_out (i : grid0.Coords) (d : Dev nD) :
    iprop(ownBufs (thrA d i) ∗ ownSems0 (thrA d i)) ⊢ (iprop(ScratchA (F := F) i d ∗ restBufsA i d ∗ restSemsA i d) : sProp 𝕄) := by
  rw [ownBufsA, ownSemsA]
  simp only [refsA, semsA, List.map_cons, List.map_nil, sepList]
  unfold ScratchA
  iintro ⟨⟨H0, H1, H2, H3, H4, H5, H6, H7, H8, H9, H10, H11, HR⟩, S0, S1, S2, S3, S4, S5, S6, S7, HS⟩
  iframe HR HS S0 S1 S2 S3 S4 S5 S6 S7
  isplitl [H0]; · iapply (holds_some (thrA d i) a9) $$ H0
  isplitl [H1]; · iapply (holds_some (thrA d i) a10) $$ H1
  isplitl [H2]; · iapply (holds_some (thrA d i) a11) $$ H2
  isplitl [H3]; · iapply (holds_some (thrA d i) a12) $$ H3
  isplitl [H4]; · iapply (holds_some (thrA d i) a13) $$ H4
  isplitl [H5]; · iapply (holds_some (thrA d i) a14) $$ H5
  isplitl [H6]; · iapply (holds_some (thrA d i) a15) $$ H6
  isplitl [H7]; · iapply (holds_some (thrA d i) a16) $$ H7
  isplitl [H8]; · iapply (holds_some (thrA d i) a17) $$ H8
  isplitl [H9]; · iapply (holds_some (thrA d i) a18) $$ H9
  isplitl [H10]; · iapply (holds_some (thrA d i) a19) $$ H10
  iapply (holds_some (thrA d i) a20) $$ H11

/-- and putting it back. -/
theorem scratchA_in (i : grid0.Coords) (d : Dev nD) :
    (iprop(ScratchA (F := F) i d ∗ restBufsA i d ∗ restSemsA i d) : sProp 𝕄) ⊢ iprop(ownBufs (thrA d i) ∗ ownSems0 (thrA d i)) := by
  rw [ownBufsA, ownSemsA]
  simp only [refsA, semsA, List.map_cons, List.map_nil, sepList]
  unfold ScratchA
  iintro ⟨⟨H0, H1, H2, H3, H4, H5, H6, H7, H8, H9, H10, H11, S0, S1, S2, S3, S4, S5, S6, S7⟩, HR, HS⟩
  iframe HR HS S0 S1 S2 S3 S4 S5 S6 S7
  isplitl [H0]; · iapply (some_holds (thrA d i) a9) $$ H0
  isplitl [H1]; · iapply (some_holds (thrA d i) a10) $$ H1
  isplitl [H2]; · iapply (some_holds (thrA d i) a11) $$ H2
  isplitl [H3]; · iapply (some_holds (thrA d i) a12) $$ H3
  isplitl [H4]; · iapply (some_holds (thrA d i) a13) $$ H4
  isplitl [H5]; · iapply (some_holds (thrA d i) a14) $$ H5
  isplitl [H6]; · iapply (some_holds (thrA d i) a15) $$ H6
  isplitl [H7]; · iapply (some_holds (thrA d i) a16) $$ H7
  isplitl [H8]; · iapply (some_holds (thrA d i) a17) $$ H8
  isplitl [H9]; · iapply (some_holds (thrA d i) a18) $$ H9
  isplitl [H10]; · iapply (some_holds (thrA d i) a19) $$ H10
  iapply (some_holds (thrA d i) a20) $$ H11

/-- Kernel 1's scratch buffers and semaphores. -/
def refsB : List (Ref sig .scVector) := [(cc1_scratch0 : Ref sig .scVector), (cc1_scratch1 : Ref sig .scVector), (cc1_scratch2 : Ref sig .scVector), (cc1_scratch3 : Ref sig .scVector), (cc1_scratch4 : Ref sig .scVector), (cc1_scratch5 : Ref sig .scVector), (cc1_scratch6 : Ref sig .scVector), (cc1_scratch7 : Ref sig .scVector), (cc1_scratch8 : Ref sig .scVector), (cc1_scratch9 : Ref sig .scVector), (cc1_scratch10 : Ref sig .scVector), (cc1_scratch11 : Ref sig .scVector), (cc1_scratch12 : Ref sig .scVector), (cc1_scratch13 : Ref sig .scVector), (cc1_scratch14 : Ref sig .scVector), (cc1_scratch15 : Ref sig .scVector), (cc1_scratch16 : Ref sig .scVector)]
def semsB : List (SemLoc sig) := [(SemLoc.dma cc1_scratch17.sem : SemLoc sig), (SemLoc.dma cc1_scratch18.sem : SemLoc sig), (SemLoc.dma cc1_scratch19.sem : SemLoc sig), (SemLoc.dma cc1_scratch20.sem : SemLoc sig), (SemLoc.dma cc1_scoped0.sem : SemLoc sig), (SemLoc.dma cc1_scoped1.sem : SemLoc sig), (SemLoc.dma cc1_scoped2.sem : SemLoc sig)]

/-- The tile's own buffers other than kernel 1's scratch. -/
def restBufsB (i : grid1.Coords) (d : Dev nD) : sProp 𝕄 :=
  bigSep (ownRefs (thrB d i).2 \ (refsB.map (thrB d i).2.devRef).toFinset) fun b => iprop(∃ f, ((d, b) : Loc nD τ sig) ↦{fullShare} f)
/-- The tile's own semaphores other than kernel 1's. -/
def restSemsB (i : grid1.Coords) (d : Dev nD) : sProp 𝕄 :=
  bigSep (ownCells (thrB d i) \ (semsB.map fun x => ((thrB d i, x) : GSem nD τ sig)).toFinset) fun g => semVal g 0

theorem ownBufsB (i : grid1.Coords) (d : Dev nD) :
    (ownBufs (thrB d i) : sProp 𝕄) = sepList ((refsB.map (thrB d i).2.devRef).map fun b => iprop(∃ f, ((d, b) : Loc nD τ sig) ↦{fullShare} f)) (restBufsB i d) :=
  ownBufs_carve d _ _ refsB (by decide) (by
    intro r hr
    simp only [refsB, List.mem_cons, List.not_mem_nil, or_false] at hr
    rcases hr with rfl | rfl | rfl | rfl | rfl | rfl | rfl | rfl | rfl | rfl | rfl | rfl | rfl | rfl | rfl | rfl | rfl <;> rfl)

theorem ownSemsB (i : grid1.Coords) (d : Dev nD) :
    (ownSems0 (thrB d i) : sProp 𝕄) = sepList ((semsB.map fun x => ((thrB d i, x) : GSem nD τ sig)).map fun g => semVal g 0) (restSemsB i d) :=
  ownSems_carve d _ _ semsB (by decide) (by decide)

/-- The tile's own buffers and semaphores are the scratch and the rest: taking the scratch out, -/
theorem scratchB_out (i : grid1.Coords) (d : Dev nD) :
    iprop(ownBufs (thrB d i) ∗ ownSems0 (thrB d i)) ⊢ (iprop(ScratchB (F := F) i d ∗ restBufsB i d ∗ restSemsB i d) : sProp 𝕄) := by
  rw [ownBufsB, ownSemsB]
  simp only [refsB, semsB, List.map_cons, List.map_nil, sepList]
  unfold ScratchB
  iintro ⟨⟨H0, H1, H2, H3, H4, H5, H6, H7, H8, H9, H10, H11, H12, H13, H14, H15, H16, HR⟩, S0, S1, S2, S3, S4, S5, S6, HS⟩
  iframe HR HS S0 S1 S2 S3 S4 S5 S6
  isplitl [H0]; · iapply (holds_some (thrB d i) b10) $$ H0
  isplitl [H1]; · iapply (holds_some (thrB d i) b11) $$ H1
  isplitl [H2]; · iapply (holds_some (thrB d i) b12) $$ H2
  isplitl [H3]; · iapply (holds_some (thrB d i) b13) $$ H3
  isplitl [H4]; · iapply (holds_some (thrB d i) b14) $$ H4
  isplitl [H5]; · iapply (holds_some (thrB d i) b15) $$ H5
  isplitl [H6]; · iapply (holds_some (thrB d i) b16) $$ H6
  isplitl [H7]; · iapply (holds_some (thrB d i) b17) $$ H7
  isplitl [H8]; · iapply (holds_some (thrB d i) b18) $$ H8
  isplitl [H9]; · iapply (holds_some (thrB d i) b19) $$ H9
  isplitl [H10]; · iapply (holds_some (thrB d i) b20) $$ H10
  isplitl [H11]; · iapply (holds_some (thrB d i) b21) $$ H11
  isplitl [H12]; · iapply (holds_some (thrB d i) b22) $$ H12
  isplitl [H13]; · iapply (holds_some (thrB d i) b23) $$ H13
  isplitl [H14]; · iapply (holds_some (thrB d i) b24) $$ H14
  isplitl [H15]; · iapply (holds_some (thrB d i) b25) $$ H15
  iapply (holds_some (thrB d i) b26) $$ H16

/-- and putting it back. -/
theorem scratchB_in (i : grid1.Coords) (d : Dev nD) :
    (iprop(ScratchB (F := F) i d ∗ restBufsB i d ∗ restSemsB i d) : sProp 𝕄) ⊢ iprop(ownBufs (thrB d i) ∗ ownSems0 (thrB d i)) := by
  rw [ownBufsB, ownSemsB]
  simp only [refsB, semsB, List.map_cons, List.map_nil, sepList]
  unfold ScratchB
  iintro ⟨⟨H0, H1, H2, H3, H4, H5, H6, H7, H8, H9, H10, H11, H12, H13, H14, H15, H16, S0, S1, S2, S3, S4, S5, S6⟩, HR, HS⟩
  iframe HR HS S0 S1 S2 S3 S4 S5 S6
  isplitl [H0]; · iapply (some_holds (thrB d i) b10) $$ H0
  isplitl [H1]; · iapply (some_holds (thrB d i) b11) $$ H1
  isplitl [H2]; · iapply (some_holds (thrB d i) b12) $$ H2
  isplitl [H3]; · iapply (some_holds (thrB d i) b13) $$ H3
  isplitl [H4]; · iapply (some_holds (thrB d i) b14) $$ H4
  isplitl [H5]; · iapply (some_holds (thrB d i) b15) $$ H5
  isplitl [H6]; · iapply (some_holds (thrB d i) b16) $$ H6
  isplitl [H7]; · iapply (some_holds (thrB d i) b17) $$ H7
  isplitl [H8]; · iapply (some_holds (thrB d i) b18) $$ H8
  isplitl [H9]; · iapply (some_holds (thrB d i) b19) $$ H9
  isplitl [H10]; · iapply (some_holds (thrB d i) b20) $$ H10
  isplitl [H11]; · iapply (some_holds (thrB d i) b21) $$ H11
  isplitl [H12]; · iapply (some_holds (thrB d i) b22) $$ H12
  isplitl [H13]; · iapply (some_holds (thrB d i) b23) $$ H13
  isplitl [H14]; · iapply (some_holds (thrB d i) b24) $$ H14
  isplitl [H15]; · iapply (some_holds (thrB d i) b25) $$ H15
  iapply (some_holds (thrB d i) b26) $$ H16

end Cert.Proof.Edges
-- ==== Proof.Launch.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import Idealize.ShloMosaic.Lib.ShareLeaves
public import proofs.«01_k».proof.Proof.Gen.KernelIdeal
public import proofs.«01_k».proof.Proof.Gen.KernelIdeal.Skeleton
public import proofs.«01_k».proof.Proof.Scratch

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## What the two calls work on -/

/-- The arrays the two calls read (the tables, the shift tables, the squared cutoff, the pairs and the shifts), and what the three
    written arrays hold beforehand. -/
structure Ins (F : FTy → Type) where
  tx : Vec F S50000 .f32
  ty : Vec F S50000 .f32
  tz : Vec F S50000 .f32
  sx : Vec F S32 .f32
  sy : Vec F S32 .f32
  sz : Vec F S32 .f32
  r : F .f32
  adj : Vec F S6400000 .i32
  sft : Vec F S3200000 .i32
  part0 : Vec F S3200000 .f32
  out0 : Vec F S6400000 .i32
  sod0 : Vec F S3200000 .f32

variable [FloatOps F]

/-- The partial sums the first call leaves, and the two results the second does. -/
abbrev Ins.part (A : Ins F) : Vec F S3200000 .f32 := partG A.tx A.ty A.sx A.sy A.adj A.sft
abbrev Ins.sod (A : Ins F) : Vec F S3200000 .f32 := sodG A.tz A.sz A.adj A.sft A.part
abbrev Ins.out (A : Ins F) : Vec F S6400000 .i32 := keepG A.r A.tz A.sz A.adj A.sft A.part

/-- The numbers the pairs and the shifts hold are within the tables. -/
def Ins.Ok (A : Ins F) : Prop := (∀ y, (A.adj y).toNat < 50000) ∧ ∀ y, (A.sft y).toNat < 32

/-- A buffer of `@main`'s on device `d`. -/
abbrev lo (d : Dev nD) (b : Ref sig .tc) : Loc nD τ sig := (SparseCore.T d).loc b

/-- What the first call reads, at a share, -/
def Rd0 (A : Ins F) (d : Dev nD) (u : PosShare TreeShare) : sProp 𝕄 :=
  iprop((lo d main_v11 ↦{u} A.tx) ∗ (lo d main_v13 ↦{u} A.ty) ∗ (lo d main_v17 ↦{u} A.sx) ∗ (lo d main_v19 ↦{u} A.sy)
    ∗ (lo d main_v22 ↦{u} A.adj) ∗ lo d main_arg5 ↦{u} A.sft)
/-- and what the second does. -/
def Rd1 (A : Ins F) (d : Dev nD) (u : PosShare TreeShare) : sProp 𝕄 :=
  iprop((lo d main_v15 ↦{u} A.tz) ∗ (lo d main_v21 ↦{u} A.sz) ∗ (lo d main_v9 ↦{u} fun _ => A.r)
    ∗ (lo d main_v22 ↦{u} A.adj) ∗ (lo d main_arg5 ↦{u} A.sft) ∗ lo d main_v23 ↦{u} A.part)
/-- A worker's range of the partial sums, from `b`, -/
def Out0 (d : Dev nD) (f : Vec F S3200000 .f32) (b : ℕ) : sProp 𝕄 := lo d main_v23 ↦[rng 3200000 b (b + 100000)]{fullShare} f
/-- and a worker's rows of the results. -/
def Out1 (d : Dev nD) (s : Vec F S3200000 .f32) (k : Vec F S6400000 .i32) (b : ℕ) : sProp 𝕄 :=
  iprop((lo d main_v24_1 ↦[rng 3200000 b (b + 100000)]{fullShare} s) ∗ (lo d main_v24_0 ↦[rng 6400000 b (b + 100000)]{fullShare} k)
    ∗ lo d main_v24_0 ↦[rng 6400000 (3200000 + b) (3200000 + (b + 100000))]{fullShare} k)

/-! ## Halving a share -/

/-- A points-to at a share is its two halves'. -/
theorem half {ℓ : Loc nD τ sig} (f : Buf (Elt F) ℓ) (u : PosShare TreeShare) :
    (ℓ ↦{u} f : sProp 𝕄) = iprop((ℓ ↦{u.left} f) ∗ ℓ ↦{u.right} f) :=
  BI.Entails.antisymm (pointsTo_share (PosShare.mem_left_op_right u)).1 (pointsTo_share (PosShare.mem_left_op_right u)).2

/-- A worker's share of what the first call reads, cut as its body uses it, -/
theorem rd0_read (A : Ins F) (d : Dev nD) (i : grid0.Coords) (u : PosShare TreeShare) :
    Rd0 A d u = ReadA i d A.tx A.ty A.sx A.sy A.adj A.sft u.left.left u.left.right u.right.left u.right.right u.left u.right u := by
  unfold Rd0
  rw [half (ℓ := lo d main_v22) A.adj u, half (ℓ := lo d main_v22) A.adj u.left, half (ℓ := lo d main_v22) A.adj u.right,
    half (ℓ := lo d main_arg5) A.sft u]
  unfold ReadA
  refine BI.Entails.antisymm ?_ ?_
  · show (_ : sProp 𝕄) ⊢ _
    iintro ⟨H1, H2, H3, H4, ⟨⟨Ha, Hb⟩, Hc, Hd⟩, Hs, Ht⟩
    isplitl [H1]; · iexact H1
    isplitl [H2]; · iexact H2
    isplitl [H3]; · iexact H3
    isplitl [H4]; · iexact H4
    isplitl [Ha]; · iexact Ha
    isplitl [Hb]; · iexact Hb
    isplitl [Hc]; · iexact Hc
    isplitl [Hd]; · iexact Hd
    isplitl [Hs]; · iexact Hs
    iexact Ht
  · show (_ : sProp 𝕄) ⊢ _
    iintro ⟨H1, H2, H3, H4, Ha, Hb, Hc, Hd, Hs, Ht⟩
    isplitl [H1]; · iexact H1
    isplitl [H2]; · iexact H2
    isplitl [H3]; · iexact H3
    isplitl [H4]; · iexact H4
    isplitl [Ha Hb Hc Hd]
    · isplitl [Ha Hb]
      · isplitl [Ha]; · iexact Ha
        iexact Hb
      isplitl [Hc]; · iexact Hc
      iexact Hd
    isplitl [Hs]; · iexact Hs
    iexact Ht

/-- and of what the second does. -/
theorem rd1_read (A : Ins F) (d : Dev nD) (i : grid1.Coords) (u : PosShare TreeShare) :
    Rd1 A d u = ReadB i d A.r A.tz A.sz A.adj A.sft A.part u.left.left u.left.right u.right.left u.right.right u.left u.right u.left u.right u := by
  unfold Rd1
  rw [half (ℓ := lo d main_v22) A.adj u, half (ℓ := lo d main_v22) A.adj u.left, half (ℓ := lo d main_v22) A.adj u.right,
    half (ℓ := lo d main_arg5) A.sft u, half (ℓ := lo d main_v23) A.part u]
  unfold ReadB
  refine BI.Entails.antisymm ?_ ?_
  · show (_ : sProp 𝕄) ⊢ _
    iintro ⟨H1, H2, H3, ⟨⟨Ha, Hb⟩, Hc, Hd⟩, ⟨Hs, Ht⟩, Hp, Hq⟩
    isplitl [H1]; · iexact H1
    isplitl [H2]; · iexact H2
    isplitl [H3]; · iexact H3
    isplitl [Ha]; · iexact Ha
    isplitl [Hb]; · iexact Hb
    isplitl [Hc]; · iexact Hc
    isplitl [Hd]; · iexact Hd
    isplitl [Hs]; · iexact Hs
    isplitl [Ht]; · iexact Ht
    isplitl [Hp]; · iexact Hp
    iexact Hq
  · show (_ : sProp 𝕄) ⊢ _
    iintro ⟨H1, H2, H3, Ha, Hb, Hc, Hd, Hs, Ht, Hp, Hq⟩
    isplitl [H1]; · iexact H1
    isplitl [H2]; · iexact H2
    isplitl [H3]; · iexact H3
    isplitl [Ha Hb Hc Hd]
    · isplitl [Ha Hb]
      · isplitl [Ha]; · iexact Ha
        iexact Hb
      isplitl [Hc]; · iexact Hc
      iexact Hd
    isplitl [Hs Ht]
    · isplitl [Hs]; · iexact Hs
      iexact Ht
    isplitl [Hp]; · iexact Hp
    iexact Hq

/-- A worker's range and rows, as its body addresses them. -/
theorem out0_tile (d : Dev nD) (i : grid0.Coords) (f : Vec F S3200000 .f32) :
    Out0 d f (baseA i) = (partM.view.loc (thrA d i) ↦[rng 3200000 (baseA i) (baseA i + 100000)]{fullShare} f : sProp 𝕄) := rfl
theorem out1_tile (d : Dev nD) (i : grid1.Coords) (s : Vec F S3200000 .f32) (k : Vec F S6400000 .i32) :
    Out1 d s k (baseB i) = (rowsB i d s k (baseB i) (baseB i + 100000) : sProp 𝕄) := rfl

/-! ## A tile's task, as the launch states it -/

/-- The three facts the launch asks of the generated tables. -/
theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

/-- Kernel 0's task on one tile, from what its handshake brings to what it takes back. -/
theorem taskA (A : Ins F) (hA : A.Ok) (d : Dev nD) (i : grid0.Coords) (u : PosShare TreeShare) (O : CellTallies nD τ sig (HIx 2)) (W : Waits sig (HIx 2))
    (hO : ∀ g, O g none = 0) :
    iprop(levAts (K (F := F)).L (K (F := F)).lev ∗ emp ∗ (Rd0 A d u ∗ Out0 d A.part0 (baseA i))
        ∗ scopedBufs (thrA d i) ∗ scopedSems0 (thrA d i) ∗ owes (thrA d i) O W)
      ⊢ wp frame (wpE (defs₀ (F := F)) 𝒱₀ (thrA d i) none) Set.univ
          (cc0__pass_a_body (F := F) i adjM (Memref.isWhole_whole _) sftM (Memref.isWhole_whole _) txM (Memref.isWhole_whole _) tyM (Memref.isWhole_whole _) sxM (Memref.isWhole_whole _) syM (Memref.isWhole_whole _) partM (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc0_scratch12 cc0_scratch13 cc0_scratch14 cc0_scratch15 cc0_scoped0 cc0_scoped1 cc0_scoped2 cc0_scoped3)
          fun _ => iprop((Rd0 A d u ∗ Out0 d A.part (baseA i)) ∗ scopedBufs (thrA d i) ∗ scopedSems0 (thrA d i)
            ∗ ∃ W', ⌜∀ p ∈ W', p ∈ W ∨ p.2 = none ∨ p.2 = some (0 : Fin 2)⌝ ∗ owes (thrA d i) O W') := by
  rw [(K (F := F)).scopedBufs_V facts d _ _, SparseCore.Cfg.scopedSems0_V (Val := Elt F) d _ _, rd0_read A d i u, out0_tile d i A.part0, out0_tile d i A.part]
  iintro ⟨#Hlv, -, ⟨Hr, Ho⟩, Hb, Hs, HO⟩
  ihave Hmw := (show levAts (K (F := F)).L (K (F := F)).lev ⊢ Transfers.MayWaits (thrA d i) (none : HIx 2) O from
    (K (F := F)).mayWaits_none (thr := thrA d i) hO) $$ Hlv
  ihave H := (scratchA_out (F := F) i d) $$ [Hb Hs]
  · isplitl [Hb] <;> iassumption
  icases H with ⟨Hscr, Hrest⟩
  iapply (wp_wand_r frame (wpE (defs₀ (F := F)) 𝒱₀ (thrA d i) none) Set.univ)
  isplitl [Hr Ho Hscr HO Hmw]
  · iapply (tileA i d A.tx A.ty A.sx A.sy A.adj A.sft A.part0 u.left.left u.left.right u.right.left u.right.right u.left u.right O W hA.1 hA.2 u)
    isplitl [Hr]; · iexact Hr
    isplitl [Ho]; · iexact Ho
    isplitl [Hscr]; · iexact Hscr
    unfold Owed
    isplitl [Hmw]; · iexact Hmw
    iexists W
    isplitr; · ipureintro; exact fun p hp => .inl hp
    iexact HO
  iintro %x ⟨Hr, Ho, Hscr, HO⟩
  ihave H := (scratchA_in (F := F) i d) $$ [Hscr Hrest]
  · isplitl [Hscr] <;> iassumption
  icases H with ⟨Hb, Hs⟩
  isplitl [Hr Ho]
  · isplitl [Hr]; · iexact Hr
    iexact Ho
  isplitl [Hb]; · iexact Hb
  isplitl [Hs]; · iexact Hs
  unfold Owed
  icases HO with ⟨-, %W', %hW, HO⟩
  iexists W'
  isplitr; · ipureintro; exact fun p hp => (hW p hp).imp_right Or.inl
  iexact HO

/-- Kernel 1's task on one tile, from what its handshake brings to what it takes back. -/
theorem taskB (A : Ins F) (hA : A.Ok) (d : Dev nD) (i : grid1.Coords) (u : PosShare TreeShare) (O : CellTallies nD τ sig (HIx 2)) (W : Waits sig (HIx 2))
    (hO : ∀ g, O g none = 0) :
    iprop(levAts (K (F := F)).L (K (F := F)).lev ∗ emp ∗ (Rd1 A d u ∗ Out1 d A.sod0 A.out0 (baseB i))
        ∗ scopedBufs (thrB d i) ∗ scopedSems0 (thrB d i) ∗ owes (thrB d i) O W)
      ⊢ wp frame (wpE (defs₀ (F := F)) 𝒱₀ (thrB d i) none) Set.univ
          (cc1__pass_b_body (F := F) i adjM (Memref.isWhole_whole _) sftM (Memref.isWhole_whole _) partM (Memref.isWhole_whole _) tzM (Memref.isWhole_whole _) szM (Memref.isWhole_whole _) rcM (Memref.isWhole_whole _) outM (Memref.isWhole_whole _) sodM (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc1_scratch17 cc1_scratch18 cc1_scratch19 cc1_scratch20 cc1_scoped0 cc1_scoped1 cc1_scoped2)
          fun _ => iprop((Rd1 A d u ∗ Out1 d A.sod A.out (baseB i)) ∗ scopedBufs (thrB d i) ∗ scopedSems0 (thrB d i)
            ∗ ∃ W', ⌜∀ p ∈ W', p ∈ W ∨ p.2 = none ∨ p.2 = some (1 : Fin 2)⌝ ∗ owes (thrB d i) O W') := by
  rw [(K (F := F)).scopedBufs_V facts d _ _, SparseCore.Cfg.scopedSems0_V (Val := Elt F) d _ _, rd1_read A d i u, out1_tile d i A.sod0 A.out0, out1_tile d i A.sod A.out]
  iintro ⟨#Hlv, -, ⟨Hr, Ho⟩, Hb, Hs, HO⟩
  ihave Hmw := (show levAts (K (F := F)).L (K (F := F)).lev ⊢ Transfers.MayWaits (thrB d i) (none : HIx 2) O from
    (K (F := F)).mayWaits_none (thr := thrB d i) hO) $$ Hlv
  ihave H := (scratchB_out (F := F) i d) $$ [Hb Hs]
  · isplitl [Hb] <;> iassumption
  icases H with ⟨Hscr, Hrest⟩
  iapply (wp_wand_r frame (wpE (defs₀ (F := F)) 𝒱₀ (thrB d i) none) Set.univ)
  isplitl [Hr Ho Hscr HO Hmw]
  · iapply (tileB i d A.r A.tz A.sz A.adj A.sft A.part A.sod0 A.out0 u.left.left u.left.right u.right.left u.right.right u.left u.right u.left u.right O W hA.1 hA.2 u)
    isplitl [Hr]; · iexact Hr
    isplitl [Ho]; · iexact Ho
    isplitl [Hscr]; · iexact Hscr
    unfold Owed
    isplitl [Hmw]; · iexact Hmw
    iexists W
    isplitr; · ipureintro; exact fun p hp => .inl hp
    iexact HO
  iintro %x ⟨Hr, Ho, Hscr, HO⟩
  ihave H := (scratchB_in (F := F) i d) $$ [Hscr Hrest]
  · isplitl [Hscr] <;> iassumption
  icases H with ⟨Hb, Hs⟩
  isplitl [Hr Ho]
  · isplitl [Hr]; · iexact Hr
    iexact Ho
  isplitl [Hb]; · iexact Hb
  isplitl [Hs]; · iexact Hs
  unfold Owed
  icases HO with ⟨-, %W', %hW, HO⟩
  iexists W'
  isplitr; · ipureintro; exact fun p hp => (hW p hp).imp_right Or.inl
  iexact HO

/-! ## What the handshakes carry -/

variable (A : Dev nD → Ins F)

/-- The share of the read arrays that tile `i` of SparseCore `c` works with, and where its range starts. -/
def ws (c : Fin 2) (i : Fin 16) : PosShare TreeShare := ShareLeaves.leaf 4 (ShareLeaves.leaf 1 fullShare c) i
def wb (c : Fin 2) (i : Fin 16) : ℕ := 200000 * i.val + 100000 * c.val

/-- Tile `(c, i)`'s part of what call 0 takes and brings back, and of what call 1 does. -/
abbrev go0 (d : Dev nD) (c : Fin 2) (i : Fin 16) : sProp 𝕄 := iprop(Rd0 (A d) d (ws c i) ∗ Out0 d (A d).part0 (wb c i))
abbrev td0 (d : Dev nD) (c : Fin 2) (i : Fin 16) : sProp 𝕄 := iprop(Rd0 (A d) d (ws c i) ∗ Out0 d (A d).part (wb c i))
abbrev go1 (d : Dev nD) (c : Fin 2) (i : Fin 16) : sProp 𝕄 := iprop(Rd1 (A d) d (ws c i) ∗ Out1 d (A d).sod0 (A d).out0 (wb c i))
abbrev td1 (d : Dev nD) (c : Fin 2) (i : Fin 16) : sProp 𝕄 := iprop(Rd1 (A d) d (ws c i) ∗ Out1 d (A d).sod (A d).out (wb c i))

/-- A call takes to a SparseCore what its sixteen tiles take, and brings back what they bring back. -/
def P : (K (F := F)).Pay (nD := nD) (Val := Elt F) (Name := ℕ) (U := UU) where
  st := fun q d c => match q with
    | 0 => bigSep Finset.univ fun i : Fin 16 => go0 A d c i
    | 1 => bigSep Finset.univ fun i : Fin 16 => go1 A d c i
  dn := fun q d c => match q with
    | 0 => bigSep Finset.univ fun i : Fin 16 => td0 A d c i
    | 1 => bigSep Finset.univ fun i : Fin 16 => td1 A d c i
  go := fun q d c i => match q with | 0 => go0 A d c i | 1 => go1 A d c i
  td := fun q d c i => match q with | 0 => td0 A d c i | 1 => td1 A d c i
  x := fun _ _ => iprop(emp)

instance storable_go0 (d : Dev nD) (c : Fin 2) (i : Fin 16) : BI.Storable (upEmb : UEmb _ 𝕄) (go0 A d c i) := by
  unfold go0 Rd0 Out0; infer_instance
instance storable_td0 (d : Dev nD) (c : Fin 2) (i : Fin 16) : BI.Storable (upEmb : UEmb _ 𝕄) (td0 A d c i) := by
  unfold td0 Rd0 Out0; infer_instance
instance storable_go1 (d : Dev nD) (c : Fin 2) (i : Fin 16) : BI.Storable (upEmb : UEmb _ 𝕄) (go1 A d c i) := by
  unfold go1 Rd1 Out1; infer_instance
instance storable_td1 (d : Dev nD) (c : Fin 2) (i : Fin 16) : BI.Storable (upEmb : UEmb _ 𝕄) (td1 A d c i) := by
  unfold td1 Rd1 Out1; infer_instance

instance P_storable : (P (F := F) A).IsStorable where
  st q d c := match q with
    | 0 => (inferInstance : BI.Storable (upEmb : UEmb _ 𝕄) (bigSep Finset.univ fun i : Fin 16 => go0 A d c i))
    | 1 => (inferInstance : BI.Storable (upEmb : UEmb _ 𝕄) (bigSep Finset.univ fun i : Fin 16 => go1 A d c i))
  dn q d c := match q with
    | 0 => (inferInstance : BI.Storable (upEmb : UEmb _ 𝕄) (bigSep Finset.univ fun i : Fin 16 => td0 A d c i))
    | 1 => (inferInstance : BI.Storable (upEmb : UEmb _ 𝕄) (bigSep Finset.univ fun i : Fin 16 => td1 A d c i))
  go q d c i := match q with | 0 => storable_go0 A d c i | 1 => storable_go1 A d c i
  td q d c i := match q with | 0 => storable_td0 A d c i | 1 => storable_td1 A d c i

/-! ## The obligations -/

/-- The coordinates of tile `s` of SparseCore `c` in call 0's grid. -/
def coordsA (c : Fin (grid0.bound 0)) (s : Fin (grid0.bound 1)) : grid0.Coords :=
  fun | 0 => c | 1 => s | ⟨_ + 2, h⟩ => absurd h (Nat.not_lt.2 (Nat.le_add_left _ _))

/-- What a tile runs for call 0. -/
theorem defs_vectorA (c : Fin τ.nSC) (s : Fin τ.nSub) :
    defs₀ (F := F) (.scVector c s) 0 ()
      = SparseCore.onTile hcore0 hsub0 (fun c s => cc0__pass_a_body (F := F) (coordsA c s) adjM (Memref.isWhole_whole _) sftM (Memref.isWhole_whole _) txM (Memref.isWhole_whole _) tyM (Memref.isWhole_whole _) sxM (Memref.isWhole_whole _) syM (Memref.isWhole_whole _) partM (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) cc0_scratch12 cc0_scratch13 cc0_scratch14 cc0_scratch15 cc0_scoped0 cc0_scoped1 cc0_scoped2 cc0_scoped3) ⟨⟩ c s := rfl

set_option maxRecDepth 16384 in
/-- Call 0's tile obligation. -/
theorem tileOblA (hA : ∀ d, (A d).Ok) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_vectorA]; simp only [SparseCore.onTile, hci, and_self, ↓reduceDIte]
  exact taskA (A d) (hA d) d (coordsA ⟨_, hci.1⟩ ⟨_, hci.2⟩) (ws c i) O W hO

/-- A SparseCore's part of call 0 is its tiles'. -/
theorem vecSplitA : (K (F := F)).VecSplit' (P A) 0 := by
  intro d c
  show (bigSep Finset.univ fun i : Fin 16 => go0 A d c i) ⊢ |={Set.univ}=> iprop((bigSep Finset.univ fun i : Fin 16 => go0 A d c i)
    ∗ ((bigSep Finset.univ fun i : Fin 16 => td0 A d c i) -∗ bigSep Finset.univ fun i : Fin 16 => td0 A d c i))
  iintro H; imodintro
  isplitl [H]; · iexact H
  iintro H; iexact H

/-- The coordinates of tile `s` of SparseCore `c` in call 1's grid. -/
def coordsB (c : Fin (grid1.bound 0)) (s : Fin (grid1.bound 1)) : grid1.Coords :=
  fun | 0 => c | 1 => s | ⟨_ + 2, h⟩ => absurd h (Nat.not_lt.2 (Nat.le_add_left _ _))

/-- What a tile runs for call 1. -/
theorem defs_vectorB (c : Fin τ.nSC) (s : Fin τ.nSub) :
    defs₀ (F := F) (.scVector c s) 1 ()
      = SparseCore.onTile hcore1 hsub1 (fun c s => cc1__pass_b_body (F := F) (coordsB c s) adjM (Memref.isWhole_whole _) sftM (Memref.isWhole_whole _) partM (Memref.isWhole_whole _) tzM (Memref.isWhole_whole _) szM (Memref.isWhole_whole _) rcM (Memref.isWhole_whole _) outM (Memref.isWhole_whole _) sodM (Memref.isWhole_whole _) b10 (Memref.isWhole_whole _) b11 (Memref.isWhole_whole _) b12 (Memref.isWhole_whole _) b13 (Memref.isWhole_whole _) b14 (Memref.isWhole_whole _) b15 (Memref.isWhole_whole _) b16 (Memref.isWhole_whole _) b17 (Memref.isWhole_whole _) b18 (Memref.isWhole_whole _) b19 (Memref.isWhole_whole _) b20 (Memref.isWhole_whole _) b21 (Memref.isWhole_whole _) b22 (Memref.isWhole_whole _) b23 (Memref.isWhole_whole _) b24 (Memref.isWhole_whole _) b25 (Memref.isWhole_whole _) b26 (Memref.isWhole_whole _) cc1_scratch17 cc1_scratch18 cc1_scratch19 cc1_scratch20 cc1_scoped0 cc1_scoped1 cc1_scoped2) ⟨⟩ c s := rfl

set_option maxRecDepth 16384 in
/-- Call 1's tile obligation. -/
theorem tileOblB (hA : ∀ d, (A d).Ok) : (K (F := F)).TileObl (D (F := F)) 𝒱 (P A) v₀ 1 := by
  intro d c i O W hO _ _
  simp only [show (P A).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs_vectorB]; simp only [SparseCore.onTile, hci, and_self, ↓reduceDIte]
  exact taskB (A d) (hA d) d (coordsB ⟨_, hci.1⟩ ⟨_, hci.2⟩) (ws c i) O W hO

/-- A SparseCore's part of call 1 is its tiles'. -/
theorem vecSplitB : (K (F := F)).VecSplit' (P A) 1 := by
  intro d c
  show (bigSep Finset.univ fun i : Fin 16 => go1 A d c i) ⊢ |={Set.univ}=> iprop((bigSep Finset.univ fun i : Fin 16 => go1 A d c i)
    ∗ ((bigSep Finset.univ fun i : Fin 16 => td1 A d c i) -∗ bigSep Finset.univ fun i : Fin 16 => td1 A d c i))
  iintro H; imodintro
  isplitl [H]; · iexact H
  iintro H; iexact H

/-! ## The launch element of the ghost state -/

theorem bigSep_none {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 2 => (P A).x q thr) = bigSep Finset.univ fun _ => iprop(emp) from
    bigSep_congr fun _ _ => bigSep_none _, bigSep_none]
  iempintro

/-! ## Dealing an array to the thirty-two workers -/

/-- A read-only array, a share to each. -/
theorem deal_share {ℓ : Loc nD τ sig} (f : Buf (Elt F) ℓ) :
    (ℓ ↦{fullShare} f : sProp 𝕄) = bigSep Finset.univ fun c : Fin 2 => bigSep Finset.univ fun i : Fin 16 => ℓ ↦{ws c i} f :=
  (ShareLeaves.pointsTo_leaves Finset.univ f 1 fullShare).trans (bigSep_congr fun c _ => ShareLeaves.pointsTo_leaves Finset.univ f 4 _)

/-- The workers' ranges are apart, -/
theorem workers_disjoint (n off : ℕ) : ∀ w ∈ (Finset.univ : Finset (Fin 2 × Fin 16)), ∀ w' ∈ (Finset.univ : Finset (Fin 2 × Fin 16)), w ≠ w' →
    Disjoint (rng n (off + wb w.1 w.2) (off + (wb w.1 w.2 + 100000))) (rng n (off + wb w'.1 w'.2) (off + (wb w'.1 w'.2 + 100000))) := by
  intro w _ w' _ h
  refine Finset.disjoint_left.mpr fun y hy hy' => h (Prod.ext (Fin.ext ?_) (Fin.ext ?_))
  all_goals
    rw [mem_rng] at hy hy'
    unfold wb at hy hy'
    have := w.1.isLt; have := w'.1.isLt
    omega

/-- Every pair is some worker's, -/
theorem worker_of (off v : ℕ) (h₁ : off ≤ v) (h₂ : v < off + 3200000) :
    ∃ w : Fin 2 × Fin 16, off + (200000 * w.2.val + 100000 * w.1.val) ≤ v ∧ v < off + (200000 * w.2.val + 100000 * w.1.val + 100000) := by
  have hd := Nat.div_add_mod (v - off) 200000
  have hr := Nat.div_add_mod ((v - off) % 200000) 100000
  have h₃ : (v - off) / 200000 < 16 := Nat.div_lt_of_lt_mul (by omega)
  have h₄ : (v - off) % 200000 / 100000 < 2 := Nat.div_lt_of_lt_mul (Nat.mod_lt _ (by decide))
  have h₅ : (v - off) % 200000 % 100000 < 100000 := Nat.mod_lt _ (by decide)
  refine ⟨(⟨_, h₄⟩, ⟨_, h₃⟩), ?_⟩
  revert hd hr h₅
  dsimp only
  clear h₃ h₄
  generalize (v - off) % 200000 % 100000 = r
  generalize (v - off) % 200000 / 100000 = p
  generalize (v - off) / 200000 = q
  generalize (v - off) % 200000 = s
  obtain ⟨z, rfl⟩ := Nat.exists_eq_add_of_le h₁
  rw [Nat.add_sub_cancel_left]
  rintro rfl rfl h₅
  clear h₁ h₂
  exact ⟨by omega, by omega⟩

/-- and together a whole stretch of all the pairs. -/
theorem workers_cover (n off : ℕ) : (Finset.univ : Finset (Fin 2 × Fin 16)).biUnion (fun w => rng n (off + wb w.1 w.2) (off + (wb w.1 w.2 + 100000)))
    = rng n off (off + 3200000) := by
  ext y
  simp only [Finset.mem_biUnion, Finset.mem_univ, true_and, mem_rng, wb]
  constructor
  · rintro ⟨w, h₁, h₂⟩
    have := w.1.isLt; have := w.2.isLt
    omega
  · rintro ⟨h₁, h₂⟩
    exact worker_of off (y 0).val h₁ h₂

/-- A stretch of an array over the pairs, a range of it to each worker. -/
theorem deal_rows {ℓ : Loc nD τ sig} {n : ℕ} (off : ℕ) (I : ℕ → ℕ → Finset (Idx ℓ)) (hs : Idx ℓ = (⟨1, ![n]⟩ : Shape).Idx)
    (hI : ∀ a b y, y ∈ I a b ↔ cast hs y ∈ rng n a b) (f : Buf (Elt F) ℓ) :
    (ℓ ↦[I off (off + 3200000)]{fullShare} f : sProp 𝕄)
      = bigSep Finset.univ fun c : Fin 2 => bigSep Finset.univ fun i : Fin 16 => ℓ ↦[I (off + wb c i) (off + (wb c i + 100000))]{fullShare} f := by
  rw [← bigSep_univ_prod (fun w : Fin 2 × Fin 16 => (ℓ ↦[I (off + wb w.1 w.2) (off + (wb w.1 w.2 + 100000))]{fullShare} f : sProp 𝕄)),
    ← pointsTo_biUnion Finset.univ (ℓ := ℓ) (fun w : Fin 2 × Fin 16 => I (off + wb w.1 w.2) (off + (wb w.1 w.2 + 100000)))]
  · refine congrArg (fun J => (ℓ ↦[J]{fullShare} f : sProp 𝕄)) (Finset.ext fun y => ?_)
    rw [hI, ← workers_cover]
    simp only [Finset.mem_biUnion, hI]
  · intro w hw w' hw' h
    exact Finset.disjoint_left.mpr fun y hy hy' => Finset.disjoint_left.mp (workers_disjoint n off w hw w' hw' h) ((hI _ _ _).mp hy) ((hI _ _ _).mp hy')

end Cert.Proof.Edges
-- ==== Proof.Main.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import proofs.«01_k».proof.Proof.Gen.KernelIdeal
public import proofs.«01_k».proof.Proof.Gen.KernelIdeal.Skeleton
public import proofs.«01_k».proof.Proof.Launch

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq wp_seq wp_hlo_within)

variable {F : FTy → Type}

local notation "𝕄" => MT nD τ sig (HIx 2) (Elt F) ℕ UU ℕ

variable [FloatOps F]

/-! ## Dealing what the calls take, and putting it together again -/

/-- The partial sums, whole, are the workers' ranges; -/
theorem deal_part (d : Dev nD) (f : Vec F S3200000 .f32) :
    (lo d main_v23 ↦{fullShare} f : sProp 𝕄) = bigSep Finset.univ fun c : Fin 2 => bigSep Finset.univ fun i : Fin 16 => Out0 d f (wb c i) := by
  have h := deal_rows (F := F) (ℓ := lo d main_v23) (n := 3200000) 0 (fun a b => rng 3200000 a b) rfl (fun _ _ _ => Iff.rfl) f
  simp only [Nat.zero_add] at h
  rw [rng_all] at h
  exact h

/-- the squared distances likewise, -/
theorem deal_sod (d : Dev nD) (f : Vec F S3200000 .f32) :
    (lo d main_v24_1 ↦{fullShare} f : sProp 𝕄)
      = bigSep Finset.univ fun c : Fin 2 => bigSep Finset.univ fun i : Fin 16 => lo d main_v24_1 ↦[rng 3200000 (wb c i) (wb c i + 100000)]{fullShare} f := by
  have h := deal_rows (F := F) (ℓ := lo d main_v24_1) (n := 3200000) 0 (fun a b => rng 3200000 a b) rfl (fun _ _ _ => Iff.rfl) f
  simp only [Nat.zero_add] at h
  rw [rng_all] at h
  exact h

/-- and the pairs' result, a worker's range of either half. -/
theorem deal_out (d : Dev nD) (f : Vec F S6400000 .i32) :
    (lo d main_v24_0 ↦{fullShare} f : sProp 𝕄)
      = iprop((bigSep Finset.univ fun c : Fin 2 => bigSep Finset.univ fun i : Fin 16 => lo d main_v24_0 ↦[rng 6400000 (wb c i) (wb c i + 100000)]{fullShare} f)
        ∗ bigSep Finset.univ fun c : Fin 2 => bigSep Finset.univ fun i : Fin 16 =>
            lo d main_v24_0 ↦[rng 6400000 (3200000 + wb c i) (3200000 + (wb c i + 100000))]{fullShare} f) := by
  have h := deal_rows (F := F) (ℓ := lo d main_v24_0) (n := 6400000) 0 (fun a b => rng 6400000 a b) rfl (fun _ _ _ => Iff.rfl) f
  have h' := deal_rows (F := F) (ℓ := lo d main_v24_0) (n := 6400000) 3200000 (fun a b => rng 6400000 a b) rfl (fun _ _ _ => Iff.rfl) f
  simp only [Nat.zero_add] at h
  rw [← h, ← h', show (lo d main_v24_0 ↦{fullShare} f : sProp 𝕄) = (lo d main_v24_0 ↦[rng 6400000 0 6400000]{fullShare} f) by rw [rng_all],
    rng_union (n := 6400000) (Nat.zero_le 3200000) (show 3200000 ≤ 6400000 by decide)]
  have hu := pointsTo_union (ℓ := lo d main_v24_0) (q := fullShare) (f := f) (Val := Elt F) (Ix := HIx 2) (Name := ℕ) (U := UU) (Lvl := ℕ)
    (rng_disjoint 6400000 0 3200000 6400000)
  exact BI.Entails.antisymm hu.1 hu.2

/-- What call 0 takes for both SparseCores (and brings back): the arrays it reads, and the partial sums, whole. -/
theorem call0_eq (A : Dev nD → Ins F) (d : Dev nD) (f : Vec F S3200000 .f32) :
    (bigSep Finset.univ fun c : Fin 2 => bigSep Finset.univ fun i : Fin 16 => iprop(Rd0 (A d) d (ws c i) ∗ Out0 d f (wb c i)) : sProp 𝕄)
      = iprop(Rd0 (A d) d fullShare ∗ lo d main_v23 ↦{fullShare} f) := by
  rw [deal_part]
  unfold Rd0
  simp only [bigSep_sep']
  rw [deal_share (ℓ := lo d main_v11), deal_share (ℓ := lo d main_v13), deal_share (ℓ := lo d main_v17), deal_share (ℓ := lo d main_v19),
    deal_share (ℓ := lo d main_v22), deal_share (ℓ := lo d main_arg5)]

/-- What call 1 takes for both SparseCores (and brings back). -/
theorem call1_eq (A : Dev nD → Ins F) (d : Dev nD) (s : Vec F S3200000 .f32) (k : Vec F S6400000 .i32) :
    (bigSep Finset.univ fun c : Fin 2 => bigSep Finset.univ fun i : Fin 16 => iprop(Rd1 (A d) d (ws c i) ∗ Out1 d s k (wb c i)) : sProp 𝕄)
      = iprop(Rd1 (A d) d fullShare ∗ (lo d main_v24_1 ↦{fullShare} s) ∗ lo d main_v24_0 ↦{fullShare} k) := by
  rw [deal_sod, deal_out]
  unfold Rd1 Out1
  simp only [bigSep_sep']
  rw [deal_share (ℓ := lo d main_v15), deal_share (ℓ := lo d main_v21), deal_share (ℓ := lo d main_v9), deal_share (ℓ := lo d main_v22),
    deal_share (ℓ := lo d main_arg5), deal_share (ℓ := lo d main_v23)]

/-! ## The lines of host operations -/

/-- The host operations before the calls, in order, -/
abbrev preOps : List (HloOp τ sig (Elt F)) :=
  [StableHlo.reshape main_arg1 main_v0 (rfl : (.f32 : EltTy) = .f32) shapeCasts_S1x3x3_S3x3,
   StableHlo.reshape main_arg0 main_v1 (rfl : (.f32 : EltTy) = .f32) shapeCasts_S1x50000x3_S50000x3,
   StableHlo.reshape main_arg3 main_v2 (rfl : (.i32 : EltTy) = .i32) shapeCasts_S1x50000x3_S50000x3,
   StableHlo.unary main_v2 main_v3 (sitofp .f32 : (⟨S50000x3, .i32⟩ : BufTy).Contents (Elt F) → (⟨S50000x3, .f32⟩ : BufTy).Contents (Elt F)),
   StableHlo.binary main_v3 main_v0 main_v4 ((fun l r => Host.dotGeneral dot_S50000x3_S3x3_S50000x3_1_0_0_1_n_n none l r) : (⟨S50000x3, .f32⟩ : BufTy).Contents (Elt F) → (⟨S3x3, .f32⟩ : BufTy).Contents (Elt F) → (⟨S50000x3, .f32⟩ : BufTy).Contents (Elt F)),
   StableHlo.binary main_v1 main_v4 main_v5 (addf : (⟨S50000x3, .f32⟩ : BufTy).Contents (Elt F) → (⟨S50000x3, .f32⟩ : BufTy).Contents (Elt F) → (⟨S50000x3, .f32⟩ : BufTy).Contents (Elt F)),
   StableHlo.binary main_arg2 main_v0 main_v6 ((fun l r => Host.dotGeneral dot_S27x3_S3x3_S27x3_1_0_0_1_n_n none l r) : (⟨S27x3, .f32⟩ : BufTy).Contents (Elt F) → (⟨S3x3, .f32⟩ : BufTy).Contents (Elt F) → (⟨S27x3, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v6 : StableHlo.TRef sig ⟨S27x3, .f32⟩) main_call0.v0 main_call0.v1 (fun x v => pad S32x3 ![0, 0] ![5, 0] ![0, 0] x v pads_S27x3_S32x3_050_000 h_S_),
   StableHlo.binary main_arg6 main_arg6 main_v8 (mulf : (⟨S_, .f32⟩ : BufTy).Contents (Elt F) → (⟨S_, .f32⟩ : BufTy).Contents (Elt F) → (⟨S_, .f32⟩ : BufTy).Contents (Elt F)),
   StableHlo.unary main_v8 main_v9 (broadcastInDim S16 ![] bcast_S_S16 : (⟨S_, .f32⟩ : BufTy).Contents (Elt F) → (⟨S16, .f32⟩ : BufTy).Contents (Elt F)),
   StableHlo.unary main_v5 main_v10 ((extractStridedSlice S50000x1 ![0, 0] · slices_S50000x3_S50000x1_0_0) : (⟨S50000x3, .f32⟩ : BufTy).Contents (Elt F) → (⟨S50000x1, .f32⟩ : BufTy).Contents (Elt F)),
   StableHlo.reshape main_v10 main_v11 (rfl : (.f32 : EltTy) = .f32) shapeCasts_S50000x1_S50000,
   StableHlo.unary main_v5 main_v12 ((extractStridedSlice S50000x1 ![0, 1] · slices_S50000x3_S50000x1_0_1) : (⟨S50000x3, .f32⟩ : BufTy).Contents (Elt F) → (⟨S50000x1, .f32⟩ : BufTy).Contents (Elt F)),
   StableHlo.reshape main_v12 main_v13 (rfl : (.f32 : EltTy) = .f32) shapeCasts_S50000x1_S50000,
   StableHlo.unary main_v5 main_v14 ((extractStridedSlice S50000x1 ![0, 2] · slices_S50000x3_S50000x1_0_2) : (⟨S50000x3, .f32⟩ : BufTy).Contents (Elt F) → (⟨S50000x1, .f32⟩ : BufTy).Contents (Elt F)),
   StableHlo.reshape main_v14 main_v15 (rfl : (.f32 : EltTy) = .f32) shapeCasts_S50000x1_S50000,
   StableHlo.unary main_v7 main_v16 ((extractStridedSlice S32x1 ![0, 0] · slices_S32x3_S32x1_0_0) : (⟨S32x3, .f32⟩ : BufTy).Contents (Elt F) → (⟨S32x1, .f32⟩ : BufTy).Contents (Elt F)),
   StableHlo.reshape main_v16 main_v17 (rfl : (.f32 : EltTy) = .f32) shapeCasts_S32x1_S32,
   StableHlo.unary main_v7 main_v18 ((extractStridedSlice S32x1 ![0, 1] · slices_S32x3_S32x1_0_1) : (⟨S32x3, .f32⟩ : BufTy).Contents (Elt F) → (⟨S32x1, .f32⟩ : BufTy).Contents (Elt F)),
   StableHlo.reshape main_v18 main_v19 (rfl : (.f32 : EltTy) = .f32) shapeCasts_S32x1_S32,
   StableHlo.unary main_v7 main_v20 ((extractStridedSlice S32x1 ![0, 2] · slices_S32x3_S32x1_0_2) : (⟨S32x3, .f32⟩ : BufTy).Contents (Elt F) → (⟨S32x1, .f32⟩ : BufTy).Contents (Elt F)),
   StableHlo.reshape main_v20 main_v21 (rfl : (.f32 : EltTy) = .f32) shapeCasts_S32x1_S32,
   StableHlo.reshape main_arg4 main_v22 (rfl : (.i32 : EltTy) = .i32) shapeCasts_S2x3200000_S6400000]
/-- what each writes, -/
abbrev preW : List (Ref sig .tc) := [main_v0, main_v1, main_v2, main_v3, main_v4, main_v5, main_v6, main_c, main_call0_v0, main_v7, main_v8, main_v9, main_v10, main_v11, main_v12, main_v13, main_v14, main_v15, main_v16, main_v17, main_v18, main_v19, main_v20, main_v21, main_v22]
/-- and the one after them. -/
abbrev opOut : HloOp τ sig (Elt F) := StableHlo.reshape main_v24_0 main_v25 (rfl : (.i32 : EltTy) = .i32) shapeCasts_S6400000_S2x3200000

/-- `@main` is the line, the two calls, and the last operation. -/
theorem main_eq (d : Dev nD) : main (F := F) d = (seq preOps >>= fun _ => (do
    sc.run d 0
    sc.run d 1
    hlo rfl opOut (fun _ => .ret ⟨⟩)
    pure ⟨⟩)) := by
  rw [StableHlo.seq_bind_seqK]
  rfl

theorem preOps_writes : (preOps (F := F)).Forall fun op => op.writes ⊆ (preW.map (Proc.devRef (τ := τ) .tc)).toFinset :=
  StableHlo.forall_writes_sub_of_map rfl

/-- The TensorCore's arrays. -/
def SS : Finset (DevRef τ sig) := (Finset.univ.filter fun b : Ref sig .tc => ¬ b.isScoped).map ⟨Proc.devRef .tc, Proc.devRef_injective _⟩

theorem mem_SS {r : Ref sig .tc} : Proc.devRef .tc r ∈ SS ↔ r.isScoped = false := by
  unfold SS
  rw [Finset.mem_map]
  simp only [Finset.mem_filter, Finset.mem_univ, true_and, Function.Embedding.coeFn_mk]
  constructor
  · rintro ⟨x, hx, he⟩; rw [← Proc.devRef_injective _ he]; simpa using hx
  · intro h; exact ⟨r, by simpa using h, rfl⟩

theorem preOps_bufs : ∀ op ∈ preOps (F := F), op.bufs ⊆ SS := by
  refine List.forall_iff_forall_mem.mp ?_
  simp only [preOps, List.Forall, StableHlo.reshape_bufs, StableHlo.unary_bufs, StableHlo.binary_bufs, StableHlo.nullary_bufs, StableHlo.TRef.unary, StableHlo.TRef.binary,
    Finset.insert_subset_iff, Finset.singleton_subset_iff]
  repeat' with_reducible apply And.intro
  all_goals exact mem_SS.mpr (by decide)

theorem preOps_fresh : ∀ op ∈ preOps (F := F), op.fresh = ∅ :=
  List.forall_iff_forall_mem.mp (StableHlo.forall_fresh_of_map rfl)

theorem opOut_bufs : (opOut (F := F)).bufs ⊆ SS := by
  simp only [opOut, StableHlo.reshape_bufs, Finset.insert_subset_iff, Finset.singleton_subset_iff]
  exact ⟨mem_SS.mpr (by decide), mem_SS.mpr (by decide)⟩

/-! ## What the arrays hold, stage by stage -/

variable (m : (ℓ : Loc nD τ sig) → Buf (Elt F) ℓ) (ρ : Dev nD → PrngReg)

/-- At the launch, and when the calls start. -/
def V0 (d : Dev nD) : Valuation τ sig (Elt F) := fun b => m (d, b)
def V1 (d : Dev nD) : Valuation τ sig (Elt F) := after preOps (V0 m d)

/-- What the calls work on. -/
def A (d : Dev nD) : Ins F where
  tx := V1 m d (Proc.devRef .tc main_v11)
  ty := V1 m d (Proc.devRef .tc main_v13)
  tz := V1 m d (Proc.devRef .tc main_v15)
  sx := V1 m d (Proc.devRef .tc main_v17)
  sy := V1 m d (Proc.devRef .tc main_v19)
  sz := V1 m d (Proc.devRef .tc main_v21)
  r := V1 m d (Proc.devRef .tc main_v8) fun a => a.elim0
  adj := V1 m d (Proc.devRef .tc main_v22)
  sft := V1 m d (Proc.devRef .tc main_arg5)
  part0 := V1 m d (Proc.devRef .tc main_v23)
  out0 := V1 m d (Proc.devRef .tc main_v24_0)
  sod0 := V1 m d (Proc.devRef .tc main_v24_1)

/-- After the calls, and at the end. -/
def V2 (d : Dev nD) : Valuation τ sig (Elt F) :=
  Function.update (Function.update (Function.update (V1 m d) (Proc.devRef .tc main_v23) (A m d).part) (Proc.devRef .tc main_v24_0) (A m d).out)
    (Proc.devRef .tc main_v24_1) (A m d).sod
def V3 (d : Dev nD) : Valuation τ sig (Elt F) := opOut.result (V2 m d)

/-- The squared cutoff's array is the one number sixteen times. -/
theorem V1_v9 (d : Dev nD) : V1 m d (Proc.devRef .tc main_v9) = fun _ => (A m d).r := by
  show V1 m d (Proc.devRef .tc main_v9) = fun _ => V1 m d (Proc.devRef .tc main_v8) fun a => a.elim0
  unfold V1
  after_results_simp
  exact funext fun x => congrArg (mulf (V0 m d (Proc.devRef .tc main_arg6)) (V0 m d (Proc.devRef .tc main_arg6))) (funext fun a => a.elim0)

/-- The calls change only what they write. -/
theorem V2_of_ne (d : Dev nD) (b : Ref sig .tc) (h₁ : b ≠ main_v23) (h₂ : b ≠ main_v24_0) (h₃ : b ≠ main_v24_1) :
    V2 m d (Proc.devRef .tc b) = V1 m d (Proc.devRef .tc b) := by
  unfold V2
  rw [Function.update_of_ne (StableHlo.devRef_ne_of_ne h₃), Function.update_of_ne (StableHlo.devRef_ne_of_ne h₂), Function.update_of_ne (StableHlo.devRef_ne_of_ne h₁)]
theorem V2_part (d : Dev nD) : V2 m d (Proc.devRef .tc main_v23) = (A m d).part := by
  unfold V2
  rw [Function.update_of_ne (StableHlo.devRef_ne_of_ne (by decide)), Function.update_of_ne (StableHlo.devRef_ne_of_ne (by decide)), Function.update_self]
theorem V2_out (d : Dev nD) : V2 m d (Proc.devRef .tc main_v24_0) = (A m d).out := by
  unfold V2
  rw [Function.update_of_ne (StableHlo.devRef_ne_of_ne (by decide)), Function.update_self]
theorem V2_sod (d : Dev nD) : V2 m d (Proc.devRef .tc main_v24_1) = (A m d).sod := by
  unfold V2
  rw [Function.update_self]

/-- A buffer no host operation and no call writes keeps its contents. -/
theorem V3_keep (d : Dev nD) (b : Ref sig .tc) (h₀ : b ∉ preW) (h₁ : b ≠ main_v23) (h₂ : b ≠ main_v24_0) (h₃ : b ≠ main_v24_1) (h₄ : b ≠ main_v25) :
    V3 m d (Proc.devRef .tc b) = m (d, Proc.devRef .tc b) := by
  unfold V3
  rw [opOut.result_of_not_mem (V2 m d) (b := Proc.devRef .tc b) (by
      rw [StableHlo.reshape_writes, Finset.mem_singleton]; exact StableHlo.devRef_ne_of_ne h₄), V2_of_ne m d b h₁ h₂ h₃]
  exact StableHlo.after_of_writes_sub preOps (V0 m d) preOps_writes h₀

/-! ## `@main` on the TensorCore -/

/-- The arrays the calls use. -/
abbrev callRefs : List (Ref sig .tc) := [main_v11, main_v13, main_v17, main_v19, main_v22, main_arg5, main_v23, main_v15, main_v21, main_v9, main_v24_0, main_v24_1]

theorem held_calls (d : Dev nD) (V : Valuation τ sig (Elt F)) :
    (held (SparseCore.T d) SS V : sProp 𝕄) = sepList ((callRefs.map (Proc.devRef .tc)).map fun b => ((d, b) : Loc nD τ sig) ↦{fullShare} V b)
      (held (SparseCore.T d) (SS \ (callRefs.map (Proc.devRef .tc)).toFinset) V) := by
  unfold held
  refine carve _ _ _ (List.Nodup.map (Proc.devRef_injective _) (by decide)) fun b hb => ?_
  obtain ⟨r, hr, rfl⟩ := List.mem_map.mp hb
  rw [mem_SS]
  revert r
  decide

theorem unscoped_held (d : Dev nD) : (unscopedBufs d (fun b => m ((SparseCore.T d).loc b)) : sProp 𝕄) = held (SparseCore.T d) SS (V0 m d) := by
  unfold unscopedBufs held SS
  rw [bigSep_map]
  rfl

/-- The arrays the calls do not use are the same before and after them. -/
theorem held_rest (d : Dev nD) :
    (held (SparseCore.T d) (SS \ (callRefs.map (Proc.devRef .tc)).toFinset) (V2 m d) : sProp 𝕄) = held (SparseCore.T d) (SS \ (callRefs.map (Proc.devRef .tc)).toFinset) (V1 m d) := by
  refine StableHlo.held_congr _ fun b hb => ?_
  obtain ⟨hs, hn⟩ := Finset.mem_sdiff.mp hb
  obtain ⟨r, -, rfl⟩ := Finset.mem_map.mp hs
  have hne (x : Ref sig .tc) (hx : x ∈ callRefs) : r ≠ x := fun e => hn (by rw [e]; exact List.mem_toFinset.mpr (List.mem_map_of_mem hx))
  exact V2_of_ne m d r (hne _ (by decide)) (hne _ (by decide)) (hne _ (by decide))

/-- All the arrays when the calls start: what each call reads, what they write, and the rest; -/
theorem held_V1 (d : Dev nD) :
    (held (SparseCore.T d) SS (V1 m d) : sProp 𝕄) ⊢ iprop(Rd0 (A m d) d fullShare ∗ (lo d main_v23 ↦{fullShare} (A m d).part0)
      ∗ (lo d main_v15 ↦{fullShare} (A m d).tz) ∗ (lo d main_v21 ↦{fullShare} (A m d).sz) ∗ (lo d main_v9 ↦{fullShare} fun _ => (A m d).r)
      ∗ (lo d main_v24_1 ↦{fullShare} (A m d).sod0) ∗ (lo d main_v24_0 ↦{fullShare} (A m d).out0)
      ∗ held (SparseCore.T d) (SS \ (callRefs.map (Proc.devRef .tc)).toFinset) (V1 m d)) := by
  rw [held_calls]
  simp only [callRefs, List.map_cons, List.map_nil, sepList]
  rw [V1_v9]
  unfold Rd0
  iintro ⟨H0, H1, H2, H3, H4, H5, H6, H7, H8, H9, H10, H11, HR⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [H8]; · iexact H8
  isplitl [H9]; · iexact H9
  isplitl [H11]; · iexact H11
  isplitl [H10]; · iexact H10
  iexact HR

/-- and when they have run. -/
theorem held_V2 (d : Dev nD) :
    (iprop(Rd1 (A m d) d fullShare ∗ (lo d main_v24_1 ↦{fullShare} (A m d).sod) ∗ (lo d main_v24_0 ↦{fullShare} (A m d).out)
      ∗ (lo d main_v11 ↦{fullShare} (A m d).tx) ∗ (lo d main_v13 ↦{fullShare} (A m d).ty) ∗ (lo d main_v17 ↦{fullShare} (A m d).sx) ∗ (lo d main_v19 ↦{fullShare} (A m d).sy)
      ∗ held (SparseCore.T d) (SS \ (callRefs.map (Proc.devRef .tc)).toFinset) (V1 m d)) : sProp 𝕄) ⊢ held (SparseCore.T d) SS (V2 m d) := by
  rw [held_calls, held_rest]
  simp only [callRefs, List.map_cons, List.map_nil, sepList]
  rw [V2_part, V2_out, V2_sod, V2_of_ne m d main_v11 (by decide) (by decide) (by decide), V2_of_ne m d main_v13 (by decide) (by decide) (by decide),
    V2_of_ne m d main_v17 (by decide) (by decide) (by decide), V2_of_ne m d main_v19 (by decide) (by decide) (by decide),
    V2_of_ne m d main_v22 (by decide) (by decide) (by decide), V2_of_ne m d main_arg5 (by decide) (by decide) (by decide),
    V2_of_ne m d main_v15 (by decide) (by decide) (by decide), V2_of_ne m d main_v21 (by decide) (by decide) (by decide),
    V2_of_ne m d main_v9 (by decide) (by decide) (by decide), V1_v9]
  unfold Rd1
  iintro ⟨⟨H7, H8, H9, H4, H5, H6⟩, H11, H10, H0, H1, H2, H3, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

abbrev FIN (d : Dev nD) : sProp 𝕄 := held (SparseCore.T d) SS (V3 m d)

/-- `@main` on a device's TensorCore: the tables, the two calls, the result's shape. -/
theorem hmain (κ : GSem nD τ sig → ℕ) (d : Dev nD) :
    iprop((K (F := F)).ctx EH (P (A m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d SS _ preOps preOps_bufs preOps_fresh (V0 m d)) $$ [Hb Hheld]
  · isplitl [Hb] <;> iassumption
  iintro ⟨Hb, Hheld⟩
  ihave H := (show held d.tc SS (after preOps (V0 m d)) ⊢ _ from held_V1 m d) $$ Hheld
  icases H with ⟨HR, Hp, H15, H21, H9, Hs, Ho, Hrest⟩
  simp only [wp_bind, wp_pure]
  iapply ((K (F := F)).wp_run (D (F := F)) 𝒱 (EH := EH) (P := P (A m)) κ d 0) $$ [Hst HR Hp H15 H21 H9 Hs Ho Hrest Hb Hts]
  isplitr; · iexact Hctx
  isplitl [Hst]; · iexact Hst
  isplitl [HR Hp]
  · iapply (Entails.of_eq (call0_eq (A m) d (A m d).part0).symm)
    isplitl [HR] <;> iassumption
  iintro ⟨Hst, Hdn⟩
  ihave H := (show (bigSep Finset.univ fun c : Fin ((K (F := F)).nCore 0) => (P (A m)).dn 0 d c) ⊢ _ from Entails.of_eq (call0_eq (A m) d (A m d).part)) $$ Hdn
  unfold Rd0
  icases H with ⟨⟨H11, H13, H17, H19, H22, H5⟩, Hp⟩
  iapply ((K (F := F)).wp_run (D (F := F)) 𝒱 (EH := EH) (P := P (A m)) κ d 1) $$ [Hst H22 H5 Hp H15 H21 H9 Hs Ho H11 H13 H17 H19 Hrest Hb Hts]
  isplitr; · iexact Hctx
  isplitl [Hst]; · iexact Hst
  isplitl [H22 H5 Hp H15 H21 H9 Hs Ho]
  · iapply (Entails.of_eq (call1_eq (A m) d (A m d).sod0 (A m d).out0).symm)
    unfold Rd1
    isplitl [H22 H5 Hp H15 H21 H9]
    · isplitl [H15]; · iexact H15
      isplitl [H21]; · iexact H21
      isplitl [H9]; · iexact H9
      isplitl [H22]; · iexact H22
      isplitl [H5]; · iexact H5
      iexact Hp
    isplitl [Hs] <;> iassumption
  iintro ⟨Hst, Hdn⟩
  ihave H := (show (bigSep Finset.univ fun c : Fin ((K (F := F)).nCore 1) => (P (A m)).dn 1 d c) ⊢ _ from Entails.of_eq (call1_eq (A m) d (A m d).sod (A m d).out)) $$ Hdn
  icases H with ⟨HR, Hs, Ho⟩
  iapply (wp_hlo_within 𝒱 (SparseCore.T d) none Set.univ (op := opOut) (S := SS) opOut_bufs (V := V2 m d)) $$ [Hb HR Hs Ho H11 H13 H17 H19 Hrest]
  · isplitl [Hb]; · iexact Hb
    iapply (held_V2 m d)
    isplitl [HR]; · iexact HR
    isplitl [Hs]; · iexact Hs
    isplitl [Ho]; · iexact Ho
    isplitl [H11]; · iexact H11
    isplitl [H13]; · iexact H13
    isplitl [H17]; · iexact H17
    isplitl [H19]; · iexact H19
    iexact Hrest
  iintro ⟨Hb, Hheld⟩
  rw [wp_ret]; imodintro; imodintro
  isplitl [Hst]; · iexact Hst
  isplitr [Hb Hts]
  · iexact Hheld
  isplitl [Hb] <;> iassumption

/-! ## The run -/

/-- Every array of the device holds what `V3` says. -/
def fq (d : Dev nD) (s' : Phys nD τ sig (Elt F)) : Prop := ∀ b ∈ SS, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := V3 m d) SS)
  isplitl [HSI]; · iexact HSI
  iexact H

def QC : PUnit × MemSt nD τ sig (Elt F) → Prop := fun r => (∀ d : Dev nD, ∀ b ∈ SS, r.2.mem (d, b) = V3 m d b) ∧ r.2.sem = fun _ => 0

/-- From a launch memory whose pairs and shifts are within the tables, every run ends, every array as `V3` says and every
    counter at zero. -/
theorem run_main [∀ e, Nonempty (Elt F e)] (hA : ∀ d, (A m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (A m)) (A := ∅) facts v₀
    (fun q hq => match q with | 0 => nomatch hq | 1 => nomatch hq)
    (fun q _ => match q with | 0 => tileOblA (A m) hA | 1 => tileOblB (A m) hA)
    (fun q _ => match q with | 0 => SparseCore.Cfg.VecSplit.of_plain (vecSplitA (A m)) | 1 => SparseCore.Cfg.VecSplit.of_plain (vecSplitB (A m)))
    m ρ main (fun _ => iprop(emp)) (FIN m) (u₀ (F := F)) (sep_elim_left.trans (hu₀ (A m))) (hmain m ρ) (fq m) (hfin m) (QC m) (fun _ h hz => ⟨h, hz⟩)

end Cert.Proof.Edges
-- ==== Proof.Frames.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.VecWindow
public import Idealize.ShloMosaic.Lib.Tactic
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Kernel
public import proofs.«01_k».proof.Proof.Pre
public import proofs.«01_k».proof.Proof.Main

@[expose] public section

noncomputable section

namespace Cert.Proof.Edges

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq wp_seq wp_hlo_within)

variable {F : FTy → Type}

/-! The frames: the run with what it leaves dropped, the arguments and the semaphores kept. -/

section Tables
variable [FloatOps F] (m : (ℓ : Loc nD τ sig) → Buf (Elt F) ℓ) (d : Dev nD)

/-- The two rows of atom numbers, laid end to end: argument 4 read in row-major order. -/
theorem A_adj : (A m d).adj = shapeCast S6400000 (m ((d.tc : Thread nD τ).loc main_arg4)) Facts₀.shapeCasts_S2x3200000_S6400000 := by
  show V1 m d (Proc.devRef .tc main_v22) = _
  unfold V1
  after_results_simp
  rfl

/-- The shift numbers are argument 5. -/
theorem A_sft : (A m d).sft = m ((d.tc : Thread nD τ).loc main_arg5) := by
  show V1 m d (Proc.devRef .tc main_arg5) = _
  unfold V1
  after_results_simp
  rfl

/-- With every atom number below 50000 and every shift number below 27, the run's own condition holds. -/
theorem ok_of_range (h4 : ∀ y, (m ((d.tc : Thread nD τ).loc main_arg4) y).toNat < 50000)
    (h5 : ∀ y, (m ((d.tc : Thread nD τ).loc main_arg5) y).toNat < 27) : (A m d).Ok := by
  refine ⟨fun y => ?_, fun y => ?_⟩
  · rw [A_adj]; exact h4 _
  · rw [A_sft]; exact (h5 y).trans (by decide)

end Tables

/-- The arguments and the semaphore counters of a final state: each argument as it was at the start, each counter zero. -/
def Kept (m : (ℓ : Loc nD τ sig) → Buf (Elt F) ℓ) (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
  ∧ r.2.sem = fun _ => 0

/-- The run keeps the arguments and gives every counter back at zero. -/
theorem kept_of_run [FloatOps F] (m : (ℓ : Loc nD τ sig) → Buf (Elt F) ℓ) {r : PUnit × MemSt nD τ sig (Elt F)} (h : QC m r) :
    Kept m r := by
  have key : ∀ b : Ref sig .tc, b.isScoped = false → b ∉ preW → b ≠ main_v23 → b ≠ main_v24_0 → b ≠ main_v24_1 → b ≠ main_v25 →
      ∀ d : Dev nD, r.2.mem ((d.tc : Thread nD τ).loc b) = m ((d.tc : Thread nD τ).loc b) :=
    fun b hs h₀ h₁ h₂ h₃ h₄ d => (h.1 d _ (mem_SS.mpr hs)).trans (V3_keep m d b h₀ h₁ h₂ h₃ h₄)
  refine ⟨fun c => ⟨?_, ?_, ?_, ?_, ?_, ?_, ?_⟩, h.2⟩
  all_goals exact key _ (by decide) (by decide) (by decide) (by decide) (by decide) (by decide) c

/-- The run from a memory in range: the frame, for any float values. -/
theorem frame_of_range [FloatOps F] [∀ e, Nonempty (Elt F e)] (m : (ℓ : Loc nD τ sig) → Buf (Elt F) ℓ) (ρ : Dev nD → PrngReg)
    (h : ∀ c : Dev nD, (∀ y, (m ((c.tc : Thread nD τ).loc main_arg4) y).toNat < 50000)
      ∧ ∀ y, (m ((c.tc : Thread nD τ).loc main_arg5) y).toNat < 27) :
    θ_run (Cert.KernelIdeal.defs (F := F)) (Cert.KernelIdeal.threads (F := F)) ⟨m, fun _ => 0, ρ⟩ (Kept m) :=
  (θ_run Cert.KernelIdeal.defs _ _).mono (fun _ h => kept_of_run m h) (run_main m ρ fun d => ok_of_range m d (h d).1 (h d).2)

/-- The frame of the kernel at the machine's words. -/
theorem frame_kernel : Cert.quiescent_Kernel := fun m ρ hpre =>
  frame_of_range (F := Bits) m ρ fun c => in_range_out _ _ _ _ _ _ _ (hpre c)

/-- The frame of the kernel at the extended reals, under the index ranges. -/
theorem frame_kernelIdeal : Cert.quiescent_KernelIdeal := fun m ρ hpre =>
  frame_of_range (F := Ideal) m ρ fun c => in_range_out _ _ _ _ _ _ _ (hpre c)

/-- The same under the algebraic claim's precondition. -/
theorem frame_kernelIdeal_finite : Cert.quiescent_KernelIdeal_pre_in_range_finite := fun m ρ hpre =>
  frame_of_range (F := Ideal) m ρ fun c =>
    ⟨(in_range_finite_out _ _ _ _ _ _ _ (hpre c)).1, (in_range_finite_out _ _ _ _ _ _ _ (hpre c)).2.1⟩

/-- The frame of the reference, from any memory: its run keeps the arguments, and it declares no semaphore. -/
theorem frame_referenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The same under the algebraic claim's precondition, which it does not need. -/
theorem frame_referenceIdeal_finite : Cert.quiescent_ReferenceIdeal_pre_in_range_finite := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.Proof.Edges
-- ==== Proof.Arith.lean ====
module

public import proofs.«01_k».proof.Defs

@[expose] public section

noncomputable section

/-! The arithmetic of one component of one edge, over the extended reals: positions and shifts may be infinite, the cell
    matrix and the species are real numbers. -/

namespace Cert.Proof.Edges

open scoped BigOperators

/-- A real factor distributes over the sum of any extended real and a real. -/
theorem add_real_mul_real (s : EReal) (d c : ℝ) : (s + (d : EReal)) * (c : EReal) = s * c + (d : EReal) * c := by
  induction s using EReal.rec with
  | bot =>
    rw [EReal.bot_add]
    rcases lt_trichotomy c 0 with h | h | h
    · rw [EReal.bot_mul_coe_of_neg h, ← EReal.coe_mul, EReal.top_add_coe]
    · subst h; simp
    · rw [EReal.bot_mul_coe_of_pos h, EReal.bot_add]
  | top =>
    rw [EReal.top_add_coe]
    rcases lt_trichotomy c 0 with h | h | h
    · rw [EReal.top_mul_coe_of_neg h, EReal.bot_add]
    · subst h; simp
    · rw [EReal.top_mul_coe_of_pos h, ← EReal.coe_mul, EReal.top_add_coe]
  | coe s => norm_cast; exact add_mul s d c

/-- Subtracting a sum whose second part is real subtracts the parts. -/
theorem sub_add_real (q p : EReal) (a b : ℝ) : (q + (a : EReal)) - (p + (b : EReal)) = (q - p) + ((a - b : ℝ) : EReal) := by
  rw [sub_eq_add_neg, sub_eq_add_neg, EReal.neg_add (Or.inr (EReal.coe_ne_top b)) (Or.inr (EReal.coe_ne_bot b)), EReal.coe_sub,
    sub_eq_add_neg, sub_eq_add_neg, add_add_add_comm]

/-- The shift of an edge applied to the moved positions is the shift, less the whole cells each end is away, applied to
    the positions as they are. -/
theorem component (q p : EReal) (s : Fin 3 → EReal) (u v c : Fin 3 → ℝ) :
    ((q + ∑ l, (u l : EReal) * (c l : EReal)) - (p + ∑ l, (v l : EReal) * (c l : EReal))) + ∑ l, s l * (c l : EReal)
      = (q - p) + ∑ l, (s l + ((u l - v l : ℝ) : EReal)) * (c l : EReal) := by
  have hu : ∀ w : Fin 3 → ℝ, ∑ l, (w l : EReal) * (c l : EReal) = ((∑ l, w l * c l : ℝ) : EReal) := fun w => by
    simp only [Fin.sum_univ_three, EReal.coe_add, EReal.coe_mul]
  rw [hu u, hu v, sub_add_real, ← Finset.sum_sub_distrib, add_assoc]
  congr 1
  rw [Finset.sum_congr rfl fun l _ => add_real_mul_real (s l) (u l - v l) (c l), Finset.sum_add_distrib, hu fun l => u l - v l, add_comm]
  congr 2
  exact Finset.sum_congr rfl fun l _ => (sub_mul (u l) (v l) (c l)).symm

/-- The difference of two words between `−2³⁰` and `2³⁰` is the difference of the numbers. -/
theorem toInt_sub_small {x y : BitVec 32} (hx : -1073741824 ≤ x.toInt ∧ x.toInt < 1073741824)
    (hy : -1073741824 ≤ y.toInt ∧ y.toInt < 1073741824) : (x - y).toInt = x.toInt - y.toInt := by
  rw [BitVec.toInt_sub]
  exact Int.bmod_eq_of_le (by omega) (by omega)

/-! ## One component of an edge's vector -/

variable (P : Fin 50000 → Fin 3 → EReal) (C : Fin 3 → Fin 3 → EReal) (S : Fin 27 → Fin 3 → EReal) (Z : Fin 50000 → Fin 3 → BitVec 32)

/-- The component as the reference adds it up: the positions' difference, and the shift less the cells' difference applied
    to the cell matrix. -/
def vecR (i j : Fin 50000) (s : Fin 27) (k : Fin 3) : EReal :=
  (P j k - P i k) + ∑ l : Fin 3, (S s l + (((Z j l - Z i l).toInt : ℝ) : EReal)) * C l k

/-- A position moved by its whole cells. -/
def moved (n : Fin 50000) (k : Fin 3) : EReal := P n k + ∑ l : Fin 3, (((Z n l).toInt : ℝ) : EReal) * C l k

/-- A shift applied to the cell matrix. -/
def shiftC (s : Fin 27) (k : Fin 3) : EReal := ∑ l : Fin 3, S s l * C l k

/-- The component as the kernel adds it up: the moved positions' difference and the shift. -/
def vecK (i j : Fin 50000) (s : Fin 27) (k : Fin 3) : EReal := (moved P C Z j k - moved P C Z i k) + shiftC C S s k

/-- The two agree where the cell matrix is real and the species words are small enough to subtract. -/
theorem vecK_eq_vecR (hC : ∀ l k, C l k ≠ ⊤ ∧ C l k ≠ ⊥) (hZ : ∀ n k, -1073741824 ≤ (Z n k).toInt ∧ (Z n k).toInt < 1073741824)
    (i j : Fin 50000) (s : Fin 27) (k : Fin 3) : vecK P C S Z i j s k = vecR P C S Z i j s k := by
  have hc : ∀ l, C l k = (((C l k).toReal : ℝ) : EReal) := fun l => (EReal.coe_toReal (hC l k).1 (hC l k).2).symm
  have e := component (P j k) (P i k) (S s) (fun l => ((Z j l).toInt : ℝ)) (fun l => ((Z i l).toInt : ℝ)) fun l => (C l k).toReal
  simp only [← hc] at e
  unfold vecK vecR moved shiftC
  rw [e]
  refine congrArg _ (Finset.sum_congr rfl fun l _ => ?_)
  rw [toInt_sub_small (hZ j l) (hZ i l), Int.cast_sub]

end Cert.Proof.Edges
-- ==== Proof.RefValue.lean ====
module

public import proofs.«01_k».proof.Defs
public import Idealize.ShloMosaic.Lib.ReduceAll
public import Idealize.ShloMosaic.Lib.Affine
public import Idealize.ShloMosaic.Lib.IdealHost
public import Idealize.ShloMosaic.Lib.StackMember
public import Idealize.ShloMosaic.Lib.Routing.Ops
public import Idealize.ShloMosaic.Lib.Pointwise.Reduce
public import proofs.«01_k».proof.Proof.Gen.ReferenceIdeal
public import proofs.«01_k».proof.Proof.Gen.ReferenceIdeal.Run
public import proofs.«01_k».proof.Proof.Arith

@[expose] public section

noncomputable section

/-! The reference's two results, read at an edge. -/

namespace Cert.Proof.Edges.Ref

open Cert.ReferenceIdeal Cert.ReferenceIdeal.Facts₀
open Idealize.ShloMosaic hiding ix0 ix1 ix2 ix3 eq_ix1 eq_ix2 eq_ix3
open Idealize.ShloMosaic.ValueIdx
open scoped BigOperators

/-! ## Taking rows -/

/-- Row numbers with a negative one counted from the end of `n` rows, as one column. -/
def wrapped (n : BitVec 32) (idx : IVec S3200000 32) : IVec S3200000x1 32 :=
  broadcastInDim S3200000x1 ![0] bcast_S3200000_S3200000x1_0
    (select (cmpi .slt idx (broadcastInDim S3200000 ![] bcast_S_S3200000 (constantI S_ 32 0#32)))
      (addi idx (broadcastInDim S3200000 ![] bcast_S_S3200000 (constantI S_ 32 n))) idx)

/-- Which of them are rows at all, the last row being `l`. -/
def inside (l : BitVec 32) (v : IVec S3200000x1 32) : IVec S3200000 1 :=
  Host.reduce IntOp.andi
    (andi (cmpi .sge v (broadcastInDim S3200000x1 ![] bcast_S_S3200000x1 (constantI S_ 32 0#32)))
      (cmpi .sle v (broadcastInDim S3200000x1 ![0, 1] bcast_S1x1_S3200000x1_0_1 (broadcastInDim S1x1 ![1] bcast_S1_S1x1_1 (constantI S1 32 l)))))
    (constantI S_ 1 1#1) reducesTo_S3200000x1_S3200000_d1 h_S_

/-- The rows `idx` names of a table of three columns, `fill` where there is none. -/
def takeR {α : Type} {N : ℕ} (g : GatherDims ⟨2, ![N, 3]⟩ S3200000x1 S3200000x3) (n l : BitVec 32)
    (x : (⟨2, ![N, 3]⟩ : Shape).Idx → α) (idx : IVec S3200000 32) (fill : S_.Idx → α) : S3200000x3.Idx → α :=
  select (broadcastInDim S3200000x3 ![0] bcast_S3200000_S3200000x3_0 (inside l (wrapped n idx))) (Host.gather g x (wrapped n idx))
    (broadcastInDim S3200000x3 ![] bcast_S_S3200000x3 fill)

/-- A row number that is not negative is left as it is. -/
theorem wrapped_apply (n : BitVec 32) (idx : IVec S3200000 32) (e : Fin 3200000) (h : (idx (ix1 e)).toNat < 2 ^ 31) (z : Fin 1) :
    wrapped n idx (ix2 e z) = idx (ix1 e) := by
  have hneg : IntOp.cmpi .slt (idx (ix1 e)) 0#32 = 0#1 := by
    apply eq_zero_of_ne_one
    rw [IntOp.cmpi_slt, BitVec.toInt_eq_toNat_cond]
    simp only [BitVec.toInt_zero]
    omega
  show Scalar.select (IntOp.cmpi .slt (idx _) 0#32) (IntOp.addi (idx _) n) (idx _) = _
  have hi' : ∀ k : S3200000.Idx, k = ix1 e → Scalar.select (IntOp.cmpi .slt (idx k) 0#32) (IntOp.addi (idx k) n) (idx k) = idx (ix1 e) := by
    rintro k rfl
    rw [hneg]; rfl
  exact hi' _ (funext fun a => by obtain rfl : a = 0 := Subsingleton.elim _ _; rfl)

/-- With every row number at most the last row's, each is a row. -/
theorem inside_apply (n l : BitVec 32) (idx : IVec S3200000 32) (hl : l.toNat < 2 ^ 31) (h : ∀ e : Fin 3200000, (idx (ix1 e)).toNat ≤ l.toNat)
    (j : S3200000.Idx) : inside l (wrapped n idx) j = 1#1 := by
  unfold inside
  refine Host.reduce_andi_one _ _ _ _ j rfl fun i => ?_
  rw [eq_ix2 i]
  have hv := wrapped_apply n idx (i 0) (Nat.lt_of_le_of_lt (h (i 0)) hl) (i 1)
  have hh := h (i 0)
  refine IntOp.andi_eq_one.mpr ⟨?_, ?_⟩
  · show IntOp.cmpi .sge (wrapped n idx (ix2 (i 0) (i 1))) 0#32 = 1#1
    rw [hv, IntOp.cmpi_sge, BitVec.toInt_eq_toNat_cond (idx _)]
    simp only [BitVec.toInt_zero]
    omega
  · show IntOp.cmpi .sle (wrapped n idx (ix2 (i 0) (i 1))) l = 1#1
    rw [hv, IntOp.cmpi_sle, BitVec.toInt_eq_toNat_cond, BitVec.toInt_eq_toNat_cond]
    omega

/-- A row taken by a number in range is the table's row of that number. -/
theorem takeR_apply {α : Type} {N : ℕ} (g : GatherDims ⟨2, ![N, 3]⟩ S3200000x1 S3200000x3) (hg : g.offsetDims = [1] ∧ g.collapsedSliceDims = [0]
      ∧ g.operandBatchingDims = [] ∧ g.startIndexMap = [0] ∧ g.indexVectorDim = 1) (n l : BitVec 32)
    (x : (⟨2, ![N, 3]⟩ : Shape).Idx → α) (idx : IVec S3200000 32) (fill : S_.Idx → α) (hN : N < 2 ^ 31) (hl : l.toNat + 1 = N)
    (h : ∀ e : Fin 3200000, (idx (ix1 e)).toNat < N) (e : Fin 3200000) (k : Fin 3) :
    takeR g n l x idx fill (ix2 e k) = x (ix2 ⟨(idx (ix1 e)).toNat, h e⟩ k) := by
  have hin : inside l (wrapped n idx) = fun _ => 1#1 := funext fun j =>
    inside_apply n l idx (by omega) (fun e => by have := h e; omega) j
  unfold takeR
  rw [hin]
  show Host.gather g x (wrapped n idx) (ix2 e k) = _
  refine Routing.gather_row g hg.1 hg.2.1 hg.2.2.1 hg.2.2.2.1 hg.2.2.2.2 x (wrapped n idx) e k ⟨(idx (ix1 e)).toNat, h e⟩ ?_ hN
  rw [wrapped_apply n idx e (by have := h e; omega)]
  simp

/-! ## The reference's terms -/

variable (a0 : FVec Ideal S1x50000x3 .f32) (a1 : FVec Ideal S1x3x3 .f32) (a2 : FVec Ideal S27x3 .f32) (a3 : IVec S1x50000x3 32)
  (a4 : IVec S2x3200000 32) (a5 : IVec S3200000 32) (a6 : FVec Ideal S_ .f32)

/-- The first ends of the edges. -/
def rowI : IVec S3200000 32 :=
  shapeCast S3200000 (extractStridedSlice S1x3200000 ![0, 0] a4 slices_S2x3200000_S1x3200000_0_0) shapeCasts_S1x3200000_S3200000

/-- The second ends of the edges. -/
def rowJ : IVec S3200000 32 :=
  shapeCast S3200000 (extractStridedSlice S1x3200000 ![1, 0] a4 slices_S2x3200000_S1x3200000_1_0) shapeCasts_S1x3200000_S3200000

/-- Rows of a table of one row for each atom. -/
def takeN {α : Type} (x : S50000x3.Idx → α) (idx : IVec S3200000 32) (fill : S_.Idx → α) : S3200000x3.Idx → α :=
  takeR gather_S50000x3_S3200000x1_S3200000x3_1_0_n_n_0_1_13 50000#32 49999#32 x idx fill

/-- The edges' vectors. -/
def vecs : FVec Ideal S3200000x3 .f32 :=
  addf (subf (takeN (shapeCast S50000x3 a0 shapeCasts_S1x50000x3_S50000x3) (rowJ a4) (constant S_ .f32 0x7FC00000#32))
      (takeN (shapeCast S50000x3 a0 shapeCasts_S1x50000x3_S50000x3) (rowI a4) (constant S_ .f32 0x7FC00000#32)))
    (Host.dotGeneral dot_S3200000x3_S3x3_S3200000x3_1_0_0_1_n_n none
      (addf (takeR gather_S27x3_S3200000x1_S3200000x3_1_0_n_n_0_1_13 27#32 26#32 a2 a5 (constant S_ .f32 0x7FC00000#32))
        (sitofp .f32 (subi (takeN (shapeCast S50000x3 a3 shapeCasts_S1x50000x3_S50000x3) (rowJ a4) (constantI S_ 32 2147483648#32))
          (takeN (shapeCast S50000x3 a3 shapeCasts_S1x50000x3_S50000x3) (rowI a4) (constantI S_ 32 2147483648#32)))))
      (shapeCast S3x3 a1 shapeCasts_S1x3x3_S3x3))

/-- The edges' squared lengths. -/
def sods : FVec Ideal S3200000 .f32 :=
  Host.reduceAdd (mulf (vecs a0 a1 a2 a3 a4 a5) (vecs a0 a1 a2 a3 a4 a5)) (constant S_ .f32 0x00000000#32)
    reducesTo_S3200000x3_S3200000_d1 h_S_

/-- The edges kept. -/
def kept : IVec S2x3200000 32 :=
  select (broadcastInDim S2x3200000 ![0, 1] bcast_S1x3200000_S2x3200000_0_1 (broadcastInDim S1x3200000 ![1] bcast_S3200000_S1x3200000_1
      (cmpf .ole (sods a0 a1 a2 a3 a4 a5) (broadcastInDim S3200000 ![] bcast_S_S3200000 (mulf a6 a6)))))
    a4 (broadcastInDim S2x3200000 ![] bcast_S_S2x3200000 (constantI S_ 32 4294967295#32))

variable (m : (ℓ : Loc nD τ sig) → Buf (Elt Ideal) ℓ) (c : Dev nD)

set_option maxRecDepth 8192 in
/-- The reference's squared lengths are these. -/
theorem sods_eq : Value.res_main_v21 m c = sods (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := rfl

set_option maxRecDepth 8192 in
/-- The reference's edges are these. -/
theorem kept_eq : Value.res_main_v26 m c = kept (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

/-! ## Read at an edge -/

/-- A first end. -/
theorem rowI_apply (e : Fin 3200000) : rowI a4 (ix1 e) = a4 (ix2 0 e) := by
  unfold rowI
  rw [shapeCast_apply _ _ (ix1 e) (ix2 (0 : Fin 1) e) (by rw [Shape.rowMajor_val_one, Shape.rowMajor_val_two]; show 0 * _ + e.val = e.val; omega),
    extractStridedSlice_apply _ _ _ _ (ix2 (0 : Fin 2) e) (fun a => by fin_cases a <;> simp [ix2])]

/-- A second end. -/
theorem rowJ_apply (e : Fin 3200000) : rowJ a4 (ix1 e) = a4 (ix2 1 e) := by
  unfold rowJ
  rw [shapeCast_apply _ _ (ix1 e) (ix2 (0 : Fin 1) e) (by rw [Shape.rowMajor_val_one, Shape.rowMajor_val_two]; show 0 * _ + e.val = e.val; omega),
    extractStridedSlice_apply _ _ _ _ (ix2 (1 : Fin 2) e) (fun a => by fin_cases a <;> simp [ix2])]

/-- A table without its leading axis of one. -/
theorem dropUnit {α : Type} {N : ℕ} (x : (⟨3, ![1, N, 3]⟩ : Shape).Idx → α) (h : (⟨3, ![1, N, 3]⟩ : Shape).ShapeCasts ⟨2, ![N, 3]⟩) (n : Fin N) (k : Fin 3) :
    shapeCast ⟨2, ![N, 3]⟩ x h (ix2 n k) = x (ix3 0 n k) :=
  shapeCast_apply _ _ (ix2 n k) (ix3 (0 : Fin 1) n k) (by
    rw [Shape.rowMajor_val_two, Shape.rowMajor_val_three]; show (0 * _ + n.val) * _ + k.val = n.val * _ + k.val; simp)

/-- An atom's row. -/
theorem takeN_apply {α : Type} (x : S50000x3.Idx → α) (idx : IVec S3200000 32) (fill : S_.Idx → α)
    (h : ∀ e : Fin 3200000, (idx (ix1 e)).toNat < 50000) (e : Fin 3200000) (k : Fin 3) :
    takeN x idx fill (ix2 e k) = x (ix2 ⟨(idx (ix1 e)).toNat, h e⟩ k) :=
  takeR_apply _ ⟨rfl, rfl, rfl, rfl, rfl⟩ _ _ x idx fill (by norm_num) (by decide) h e k

variable (h4 : ∀ y, (a4 y).toNat < 50000) (h5 : ∀ y, (a5 y).toNat < 27)

/-- The positions by atom and component. -/
abbrev posF (n : Fin 50000) (k : Fin 3) : EReal := a0 (ix3 0 n k)
/-- The cell matrix by row and column. -/
abbrev celF (l k : Fin 3) : EReal := a1 (ix3 0 l k)
/-- The shifts by number and component. -/
abbrev sftF (s : Fin 27) (l : Fin 3) : EReal := a2 (ix2 s l)
/-- The whole cells by atom and component. -/
abbrev spcF (n : Fin 50000) (k : Fin 3) : BitVec 32 := a3 (ix3 0 n k)

/-- A component of an edge's vector, as the reference has it. -/
abbrev vecAt (e : Fin 3200000) (k : Fin 3) : EReal :=
  vecR (posF a0) (celF a1) (sftF a2) (spcF a3) ⟨_, h4 (ix2 0 e)⟩ ⟨_, h4 (ix2 1 e)⟩ ⟨_, h5 (ix1 e)⟩ k

/-- The reference's vector of an edge. -/
theorem vecs_apply (e : Fin 3200000) (k : Fin 3) : vecs a0 a1 a2 a3 a4 a5 (ix2 e k) = vecAt a0 a1 a2 a3 a4 a5 h4 h5 e k := by
  have hI : ∀ e, rowI a4 (ix1 e) = a4 (ix2 0 e) := rowI_apply a4
  have hJ : ∀ e, rowJ a4 (ix1 e) = a4 (ix2 1 e) := rowJ_apply a4
  have bI : ∀ e : Fin 3200000, (rowI a4 (ix1 e)).toNat < 50000 := fun e => by rw [hI]; exact h4 _
  have bJ : ∀ e : Fin 3200000, (rowJ a4 (ix1 e)).toNat < 50000 := fun e => by rw [hJ]; exact h4 _
  have nI : (⟨_, bI e⟩ : Fin 50000) = ⟨_, h4 (ix2 0 e)⟩ := Fin.ext (by show (rowI a4 (ix1 e)).toNat = _; rw [hI])
  have nJ : (⟨_, bJ e⟩ : Fin 50000) = ⟨_, h4 (ix2 1 e)⟩ := Fin.ext (by show (rowJ a4 (ix1 e)).toNat = _; rw [hJ])
  unfold vecs
  rw [addf_apply, subf_apply, takeN_apply _ _ _ bJ, takeN_apply _ _ _ bI, dropUnit, dropUnit, nI, nJ]
  refine congrArg _ ((StackMember.dotGeneral_plain_apply none _ _ e k).trans (Finset.sum_congr rfl fun l _ => ?_))
  rw [addf_apply, sitofp_apply, takeR_apply _ ⟨rfl, rfl, rfl, rfl, rfl⟩ _ _ _ _ _ (by norm_num) (by decide) (fun e => h5 (ix1 e)), dropUnit]
  show (_ + (((BitVec.toInt (subi (takeN _ (rowJ a4) _) (takeN _ (rowI a4) _) (ix2 e l)) : ℤ) : ℝ) : EReal)) * _ = _
  rw [show ∀ (x y : IVec S3200000x3 32) (i : S3200000x3.Idx), subi x y i = x i - y i from fun _ _ _ => rfl, takeN_apply _ _ _ bJ, takeN_apply _ _ _ bI, dropUnit, dropUnit, nI, nJ]

/-- The reference's squared length of an edge. -/
theorem sods_apply (e : Fin 3200000) : sods a0 a1 a2 a3 a4 a5 (ix1 e)
    = ∑ k : Fin 3, vecAt a0 a1 a2 a3 a4 a5 h4 h5 e k * vecAt a0 a1 a2 a3 a4 a5 h4 h5 e k := by
  refine (Ideal.hostReduceAdd_r2_a1 reducesTo_S3200000x3_S3200000_d1 (mulf (vecs a0 a1 a2 a3 a4 a5) (vecs a0 a1 a2 a3 a4 a5))
    (FloatOps.ofBits (F := Ideal) .f32 0x00000000#32) (ix1 e)).trans ?_
  rw [show (FloatOps.ofBits (F := Ideal) .f32 0x00000000#32 : EReal) = 0 from Ideal.ofBits_zero_f32, zero_add]
  refine Finset.sum_congr rfl fun k _ => ?_
  rw [← vecs_apply a0 a1 a2 a3 a4 a5 h4 h5 e k]
  exact mulf_apply _ _ _

/-- The reference's edge, kept or struck out. -/
theorem kept_apply (r : Fin 2) (e : Fin 3200000) : kept a0 a1 a2 a3 a4 a5 a6 (ix2 r e)
    = Scalar.select (FloatOps.cmpf (F := Ideal) (φ := .f32) .ole (sods a0 a1 a2 a3 a4 a5 (ix1 e)) (mulf a6 a6 ix0)) (a4 (ix2 r e)) 4294967295#32 := by
  unfold kept
  generalize sods a0 a1 a2 a3 a4 a5 = X
  generalize mulf a6 a6 = R
  rw [select_apply, broadcastInDim_apply _ _ _ (ix2 r e) (ix2 (0 : Fin 1) e) (fun a => by fin_cases a <;> simp [ix2]),
    broadcastInDim_apply _ _ _ (ix2 (0 : Fin 1) e) (ix1 e) (fun a => by obtain rfl : a = 0 := Subsingleton.elim _ _; simp [ix1, ix2]), cmpf_apply,
    broadcastInDim_scalar_apply, broadcastInDim_scalar_apply]
  rfl

end Cert.Proof.Edges.Ref
-- ==== Proof.KerValue.lean ====
module

public import proofs.«01_k».proof.Defs
public import Idealize.ShloMosaic.Lib.IdealHost
public import Idealize.ShloMosaic.Lib.KernelVsHost
public import Idealize.ShloMosaic.Lib.StackMember
public import proofs.«01_k».proof.Proof.Gen.KernelIdeal
public import proofs.«01_k».proof.Proof.Frames
public import proofs.«01_k».proof.Proof.RefValue

@[expose] public section

noncomputable section

/-! The kernel's two results, read at an edge. -/

namespace Cert.Proof.Edges

open Cert.KernelIdeal Cert.KernelIdeal.Facts₀
open Idealize.ShloMosaic hiding ix0 ix1 ix2 ix3 eq_ix1 eq_ix2 eq_ix3
open Idealize.ShloMosaic.ValueIdx
open Ref (posF celF sftF spcF dropUnit)
open scoped BigOperators

/-! ## The tables the host makes -/

section Tables
variable (a0 : FVec Ideal S1x50000x3 .f32) (a1 : FVec Ideal S1x3x3 .f32) (a2 : FVec Ideal S27x3 .f32) (a3 : IVec S1x50000x3 32)

/-- The moved positions. -/
def tabT : FVec Ideal S50000x3 .f32 :=
  addf (shapeCast S50000x3 a0 shapeCasts_S1x50000x3_S50000x3)
    (Host.dotGeneral dot_S50000x3_S3x3_S50000x3_1_0_0_1_n_n none (sitofp .f32 (shapeCast S50000x3 a3 shapeCasts_S1x50000x3_S50000x3))
      (shapeCast S3x3 a1 shapeCasts_S1x3x3_S3x3))

/-- The shifts applied to the cell matrix, with five rows of padding. -/
def shiftT : FVec Ideal S32x3 .f32 :=
  pad S32x3 ![0, 0] ![5, 0] ![0, 0] (Host.dotGeneral dot_S27x3_S3x3_S27x3_1_0_0_1_n_n none a2 (shapeCast S3x3 a1 shapeCasts_S1x3x3_S3x3))
    (sitofp .f32 (constantI S_ 32 0#32)) pads_S27x3_S32x3_050_000 h_S_

/-- A moved position. -/
theorem tabT_apply (n : Fin 50000) (k : Fin 3) : tabT a0 a1 a3 (ix2 n k) = moved (posF a0) (celF a1) (spcF a3) n k := by
  unfold tabT
  rw [addf_apply, dropUnit]
  refine congrArg _ ((StackMember.dotGeneral_plain_apply none _ _ n k).trans (Finset.sum_congr rfl fun l _ => ?_))
  rw [sitofp_apply, dropUnit, dropUnit]
  rfl

/-- An applied shift. -/
theorem shiftT_apply (s : Fin 27) (k : Fin 3) : shiftT a1 a2 (ix2 (s.castLE (by decide)) k) = shiftC (celF a1) (sftF a2) s k := by
  unfold shiftT
  rw [pad_apply_of_inside _ _ _ _ _ _ _ (ix2 (s.castLE (by decide)) k) (ix2 s k) (fun a => by fin_cases a <;> simp [ix2])]
  refine (StackMember.dotGeneral_plain_apply none _ _ s k).trans (Finset.sum_congr rfl fun l _ => ?_)
  rw [dropUnit]

end Tables

/-- One column of a table of three. -/
theorem column {α : Type} {N : ℕ} (x : (⟨2, ![N, 3]⟩ : Shape).Idx → α) (k : Fin 3) (h : (⟨2, ![N, 3]⟩ : Shape).Slices ![0, k.val] ⟨2, ![N, 1]⟩)
    (hs : (⟨2, ![N, 1]⟩ : Shape).ShapeCasts ⟨1, ![N]⟩) (n : Fin N) :
    shapeCast ⟨1, ![N]⟩ (extractStridedSlice ⟨2, ![N, 1]⟩ ![0, k.val] x h) hs (ix1 n) = x (ix2 n k) := by
  rw [shapeCast_apply _ _ (ix1 n) (ix2 n (0 : Fin 1)) (by
      rw [Shape.rowMajor_val_one, Shape.rowMajor_val_two]; show n.val * 1 + 0 = n.val; omega),
    extractStridedSlice_apply _ _ _ _ (ix2 n k) (fun a => by fin_cases a <;> simp [ix2])]

section Values
variable (m : (ℓ : Loc nD τ sig) → Buf (Elt Ideal) ℓ) (d : Dev nD)

/-- Argument 0 and the others, as arrays. -/
abbrev arg0 : FVec Ideal S1x50000x3 .f32 := m ((d.tc : Thread nD τ).loc main_arg0)
abbrev arg1 : FVec Ideal S1x3x3 .f32 := m ((d.tc : Thread nD τ).loc main_arg1)
abbrev arg2 : FVec Ideal S27x3 .f32 := m ((d.tc : Thread nD τ).loc main_arg2)
abbrev arg3 : IVec S1x50000x3 32 := m ((d.tc : Thread nD τ).loc main_arg3)
abbrev arg4 : IVec S2x3200000 32 := m ((d.tc : Thread nD τ).loc main_arg4)
abbrev arg5 : IVec S3200000 32 := m ((d.tc : Thread nD τ).loc main_arg5)
abbrev arg6 : FVec Ideal S_ .f32 := m ((d.tc : Thread nD τ).loc main_arg6)

/-- The first column of the moved positions, -/
theorem A_tx : (A m d).tx = shapeCast S50000 (extractStridedSlice S50000x1 ![0, 0] (tabT (arg0 m d) (arg1 m d) (arg3 m d)) slices_S50000x3_S50000x1_0_0)
    shapeCasts_S50000x1_S50000 := by
  show V1 m d (Proc.devRef .tc main_v11) = _
  unfold V1
  after_results_simp
  rfl

/-- the second, -/
theorem A_ty : (A m d).ty = shapeCast S50000 (extractStridedSlice S50000x1 ![0, 1] (tabT (arg0 m d) (arg1 m d) (arg3 m d)) slices_S50000x3_S50000x1_0_1)
    shapeCasts_S50000x1_S50000 := by
  show V1 m d (Proc.devRef .tc main_v13) = _
  unfold V1
  after_results_simp
  rfl

/-- and the third. -/
theorem A_tz : (A m d).tz = shapeCast S50000 (extractStridedSlice S50000x1 ![0, 2] (tabT (arg0 m d) (arg1 m d) (arg3 m d)) slices_S50000x3_S50000x1_0_2)
    shapeCasts_S50000x1_S50000 := by
  show V1 m d (Proc.devRef .tc main_v15) = _
  unfold V1
  after_results_simp
  rfl

/-- The first column of the applied shifts, -/
theorem A_sx : (A m d).sx = shapeCast S32 (extractStridedSlice S32x1 ![0, 0] (shiftT (arg1 m d) (arg2 m d)) slices_S32x3_S32x1_0_0)
    shapeCasts_S32x1_S32 := by
  show V1 m d (Proc.devRef .tc main_v17) = _
  unfold V1
  after_results_simp
  rfl

/-- the second, -/
theorem A_sy : (A m d).sy = shapeCast S32 (extractStridedSlice S32x1 ![0, 1] (shiftT (arg1 m d) (arg2 m d)) slices_S32x3_S32x1_0_1)
    shapeCasts_S32x1_S32 := by
  show V1 m d (Proc.devRef .tc main_v19) = _
  unfold V1
  after_results_simp
  rfl

/-- and the third. -/
theorem A_sz : (A m d).sz = shapeCast S32 (extractStridedSlice S32x1 ![0, 2] (shiftT (arg1 m d) (arg2 m d)) slices_S32x3_S32x1_0_2)
    shapeCasts_S32x1_S32 := by
  show V1 m d (Proc.devRef .tc main_v21) = _
  unfold V1
  after_results_simp
  rfl

/-- The squared cutoff. -/
theorem A_r : (A m d).r = mulf (arg6 m d) (arg6 m d) ix0 := by
  show V1 m d (Proc.devRef .tc main_v8) (fun a => a.elim0) = _
  unfold V1
  after_results_simp
  exact congrArg (mulf (arg6 m d) (arg6 m d)) (funext fun a => a.elim0)

/-- A moved position, as the tiles read it. -/
abbrev mv (n : Fin 50000) (k : Fin 3) : EReal := moved (posF (arg0 m d)) (celF (arg1 m d)) (spcF (arg3 m d)) n k

/-- An applied shift, as the tiles read it. -/
abbrev sh (s : Fin 27) (k : Fin 3) : EReal := shiftC (celF (arg1 m d)) (sftF (arg2 m d)) s k

theorem at_tx (n : Fin 50000) : at1 pos50000 (A m d).tx n.val = mv m d n 0 := by
  rw [at1_eq pos50000 _ n.val (ix1 n) (fun a => by obtain rfl : a = 0 := Subsingleton.elim _ _; rfl), A_tx]
  exact (column _ 0 _ _ n).trans (tabT_apply _ _ _ n 0)
theorem at_ty (n : Fin 50000) : at1 pos50000 (A m d).ty n.val = mv m d n 1 := by
  rw [at1_eq pos50000 _ n.val (ix1 n) (fun a => by obtain rfl : a = 0 := Subsingleton.elim _ _; rfl), A_ty]
  exact (column _ 1 _ _ n).trans (tabT_apply _ _ _ n 1)
theorem at_tz (n : Fin 50000) : at1 pos50000 (A m d).tz n.val = mv m d n 2 := by
  rw [at1_eq pos50000 _ n.val (ix1 n) (fun a => by obtain rfl : a = 0 := Subsingleton.elim _ _; rfl), A_tz]
  exact (column _ 2 _ _ n).trans (tabT_apply _ _ _ n 2)

theorem at_sx (s : Fin 27) : at1 pos32 (A m d).sx s.val = sh m d s 0 := by
  rw [at1_eq pos32 _ s.val (ix1 (s.castLE (by decide))) (fun a => by obtain rfl : a = 0 := Subsingleton.elim _ _; rfl), A_sx]
  exact (column _ 0 _ _ _).trans (shiftT_apply _ _ s 0)
theorem at_sy (s : Fin 27) : at1 pos32 (A m d).sy s.val = sh m d s 1 := by
  rw [at1_eq pos32 _ s.val (ix1 (s.castLE (by decide))) (fun a => by obtain rfl : a = 0 := Subsingleton.elim _ _; rfl), A_sy]
  exact (column _ 1 _ _ _).trans (shiftT_apply _ _ s 1)
theorem at_sz (s : Fin 27) : at1 pos32 (A m d).sz s.val = sh m d s 2 := by
  rw [at1_eq pos32 _ s.val (ix1 (s.castLE (by decide))) (fun a => by obtain rfl : a = 0 := Subsingleton.elim _ _; rfl), A_sz]
  exact (column _ 2 _ _ _).trans (shiftT_apply _ _ s 2)

/-! ## The edges -/

/-- The place of an end in the two rows laid end to end. -/
def place (r : Fin 2) (e : Fin 3200000) : Fin 6400000 := ⟨3200000 * r.val + e.val, by have := r.isLt; have := e.isLt; omega⟩

/-- Laying two rows end to end. -/
theorem flat_apply {α : Type} (x : S2x3200000.Idx → α) (r : Fin 2) (e : Fin 3200000) :
    shapeCast S6400000 x shapeCasts_S2x3200000_S6400000 (ix1 (place r e)) = x (ix2 r e) :=
  shapeCast_apply _ _ (ix1 (place r e)) (ix2 r e) (by
    rw [Shape.rowMajor_val_one, Shape.rowMajor_val_two]; show r.val * 3200000 + e.val = 3200000 * r.val + e.val; omega)

/-- Cutting them again. -/
theorem cut_apply {α : Type} (x : S6400000.Idx → α) (r : Fin 2) (e : Fin 3200000) :
    shapeCast S2x3200000 x shapeCasts_S6400000_S2x3200000 (ix2 r e) = x (ix1 (place r e)) :=
  shapeCast_apply _ _ (ix2 r e) (ix1 (place r e)) (by
    rw [Shape.rowMajor_val_one, Shape.rowMajor_val_two]; show 3200000 * r.val + e.val = r.val * 3200000 + e.val; omega)

/-- An end of an edge. -/
theorem at_adj (r : Fin 2) (e : Fin 3200000) : at1 pos2E (A m d).adj (3200000 * r.val + e.val) = arg4 m d (ix2 r e) := by
  rw [at1_eq pos2E _ _ (ix1 (place r e)) (fun a => by obtain rfl : a = 0 := Subsingleton.elim _ _; rfl), A_adj]
  exact flat_apply _ r e

theorem at_adj0 (e : Fin 3200000) : at1 pos2E (A m d).adj e.val = arg4 m d (ix2 0 e) := by
  have h := at_adj m d 0 e
  rwa [show 3200000 * (0 : Fin 2).val + e.val = e.val by simp] at h

theorem at_adj1 (e : Fin 3200000) : at1 pos2E (A m d).adj (3200000 + e.val) = arg4 m d (ix2 1 e) := at_adj m d 1 e

/-- The shift number of an edge. -/
theorem at_sft (e : Fin 3200000) : at1 posE (A m d).sft e.val = arg5 m d (ix1 e) := by
  rw [at1_eq posE _ e.val (ix1 e) (fun a => by obtain rfl : a = 0 := Subsingleton.elim _ _; rfl), A_sft]

variable (h4 : ∀ y, (arg4 m d y).toNat < 50000) (h5 : ∀ y, (arg5 m d y).toNat < 27)

/-- A component of an edge's vector, as the kernel has it. -/
abbrev vecKAt (e : Fin 3200000) (k : Fin 3) : EReal :=
  vecK (posF (arg0 m d)) (celF (arg1 m d)) (sftF (arg2 m d)) (spcF (arg3 m d)) ⟨_, h4 (ix2 0 e)⟩ ⟨_, h4 (ix2 1 e)⟩ ⟨_, h5 (ix1 e)⟩ k

/-- The first pass's sum of an edge. -/
theorem part_apply (e : Fin 3200000) : at1 posE (A m d).part e.val
    = vecKAt m d h4 h5 e 0 * vecKAt m d h4 h5 e 0 + vecKAt m d h4 h5 e 1 * vecKAt m d h4 h5 e 1 := by
  rw [at1_eq posE _ e.val (ix1 e) (fun a => by obtain rfl : a = 0 := Subsingleton.elim _ _; rfl)]
  show partW (A m d).tx (A m d).ty (A m d).sx (A m d).sy (at1 pos2E (A m d).adj e.val) (at1 pos2E (A m d).adj (3200000 + e.val))
    (at1 posE (A m d).sft e.val) = _
  rw [at_adj0, at_adj1, at_sft]
  unfold partW
  rw [at_tx m d ⟨_, h4 (ix2 1 e)⟩, at_tx m d ⟨_, h4 (ix2 0 e)⟩, at_ty m d ⟨_, h4 (ix2 1 e)⟩, at_ty m d ⟨_, h4 (ix2 0 e)⟩,
    at_sx m d ⟨_, h5 (ix1 e)⟩, at_sy m d ⟨_, h5 (ix1 e)⟩]
  rfl

/-- The kernel's squared length of an edge. -/
theorem sodAt_apply (e : Fin 3200000) : sodAt (A m d).tz (A m d).sz (A m d).adj (A m d).sft (A m d).part e.val
    = ∑ k : Fin 3, vecKAt m d h4 h5 e k * vecKAt m d h4 h5 e k := by
  unfold sodAt
  rw [at_adj0, at_adj1, at_sft, part_apply m d h4 h5]
  unfold sodW
  rw [at_tz m d ⟨_, h4 (ix2 1 e)⟩, at_tz m d ⟨_, h4 (ix2 0 e)⟩, at_sz m d ⟨_, h5 (ix1 e)⟩, Fin.sum_univ_three]
  rfl

/-- The kernel's edge, kept or struck out. -/
theorem out_apply (r : Fin 2) (e : Fin 3200000) : (A m d).out (ix1 (place r e))
    = keepF (A m d).r (sodAt (A m d).tz (A m d).sz (A m d).adj (A m d).sft (A m d).part e.val) (arg4 m d (ix2 r e)) := by
  have he : (if (place r e).val < 3200000 then (place r e).val else (place r e).val - 3200000) = e.val := by
    have := e.isLt
    show (if 3200000 * r.val + e.val < 3200000 then 3200000 * r.val + e.val else 3200000 * r.val + e.val - 3200000) = e.val
    rcases (by omega : r.val = 0 ∨ r.val = 1) with h | h <;> rw [h] <;> split <;> omega
  show keepF (A m d).r (sodAt (A m d).tz (A m d).sz (A m d).adj (A m d).sft (A m d).part
    (if (place r e).val < 3200000 then (place r e).val else (place r e).val - 3200000)) ((A m d).adj (ix1 (place r e))) = _
  rw [he, A_adj]
  exact congrArg _ (flat_apply _ r e)

/-- What the kernel returns first: the kept edges, in two rows. -/
theorem V3_out : V3 m d (Proc.devRef .tc main_v25) = shapeCast S2x3200000 (A m d).out shapeCasts_S6400000_S2x3200000 := by
  unfold V3
  rw [← V2_out]
  after_results_simp
  rfl

/-- What it returns second: the squared lengths. -/
theorem V3_sod : V3 m d (Proc.devRef .tc main_v24_1) = (A m d).sod := by
  unfold V3
  rw [opOut.result_of_not_mem (V2 m d) (b := Proc.devRef .tc main_v24_1) (by
      rw [StableHlo.reshape_writes, Finset.mem_singleton]; exact StableHlo.devRef_ne_of_ne (by decide)), V2_sod]

end Values

end Cert.Proof.Edges
-- ==== Proof.Algebraic.lean ====
module

public import proofs.«01_k».proof.Defs
public import proofs.«01_k».proof.Proof.KerValue

@[expose] public section

noncomputable section

/-! The kernel at the extended reals returns what the reference returns. -/

namespace Cert.Proof.Edges

open Cert.KernelIdeal
open Idealize.ShloMosaic hiding ix0 ix1 ix2 ix3 eq_ix1 eq_ix2 eq_ix3
open Idealize.ShloMosaic.ValueIdx
open Idealize.SL.Sem
open scoped BigOperators

section Equal
variable (m : (ℓ : Loc nD τ sig) → Buf (Elt Ideal) ℓ) (d : Dev nD)
  (h4 : ∀ y, (arg4 m d y).toNat < 50000) (h5 : ∀ y, (arg5 m d y).toNat < 27) (h1 : ∀ y, arg1 m d y ≠ ⊤ ∧ arg1 m d y ≠ ⊥)
  (h3 : ∀ y, -1073741824 ≤ (arg3 m d y).toInt ∧ (arg3 m d y).toInt < 1073741824)

include h4 h5 h1 h3 in
/-- The squared length of an edge is the same on both sides. -/
theorem sod_edge (e : Fin 3200000) : Ref.sods (arg0 m d) (arg1 m d) (arg2 m d) (arg3 m d) (arg4 m d) (arg5 m d) (ix1 e)
    = sodAt (A m d).tz (A m d).sz (A m d).adj (A m d).sft (A m d).part e.val := by
  rw [Ref.sods_apply _ _ _ _ _ _ h4 h5, sodAt_apply m d h4 h5]
  refine Finset.sum_congr rfl fun k _ => ?_
  exact congrArg (fun x => x * x) (vecK_eq_vecR (Ref.posF (arg0 m d)) (Ref.celF (arg1 m d)) (Ref.sftF (arg2 m d)) (Ref.spcF (arg3 m d))
    (fun l k => h1 _) (fun n k => h3 _) _ _ _ k).symm

include h4 h5 h1 h3 in
/-- The squared lengths are the same array. -/
theorem sods_same : Ref.sods (arg0 m d) (arg1 m d) (arg2 m d) (arg3 m d) (arg4 m d) (arg5 m d) = V3 m d (Proc.devRef .tc main_v24_1) := by
  rw [V3_sod]
  refine funext fun y => ?_
  rw [eq_ix1 y]
  exact sod_edge m d h4 h5 h1 h3 (y 0)

include h4 h5 h1 h3 in
/-- An edge is kept, or struck out, the same on both sides. -/
theorem kept_edge (r : Fin 2) (e : Fin 3200000) : Ref.kept (arg0 m d) (arg1 m d) (arg2 m d) (arg3 m d) (arg4 m d) (arg5 m d) (arg6 m d) (ix2 r e)
    = shapeCast S2x3200000 (A m d).out Facts₀.shapeCasts_S6400000_S2x3200000 (ix2 r e) := by
  rw [Ref.kept_apply, cut_apply, out_apply, A_r, ← sod_edge m d h4 h5 h1 h3]
  rfl

include h4 h5 h1 h3 in
/-- The kept edges are the same array. -/
theorem kept_same : Ref.kept (arg0 m d) (arg1 m d) (arg2 m d) (arg3 m d) (arg4 m d) (arg5 m d) (arg6 m d) = V3 m d (Proc.devRef .tc main_v25) := by
  rw [V3_out]
  refine funext fun y => ?_
  rw [eq_ix2 y]
  exact kept_edge m d h4 h5 h1 h3 (y 0) (y 1)

end Equal

/-- From equal arguments, under the precondition, the kernel and the reference return the same two arrays. -/
theorem algebraic : Cert.algebraic_KernelIdeal_ReferenceIdeal_pre_in_range_finite := by
  intro m g m' g' hpre hargs
  have hp := fun c => in_range_finite_out _ _ _ _ _ _ _ (hpre c)
  refine ⟨fun c => V3 m c (Proc.devRef .tc main_v25), fun c => V3 m c (Proc.devRef .tc main_v24_1), ?_, ?_⟩
  · refine (θ_run Cert.KernelIdeal.defs _ _).mono (fun r h c => ?_) (run_main m g fun d => ok_of_range m d (hp d).1 (hp d).2.1)
    exact ⟨h.1 c _ (mem_SS.mpr (by decide)), h.1 c _ (mem_SS.mpr (by decide)), (kept_of_run m h).1 c⟩
  · refine (θ_run Cert.ReferenceIdeal.defs _ _).mono (fun r h c => ?_) (Cert.ReferenceIdeal.Value.run (F := Ideal) m' g')
    obtain ⟨e0, e1, e2, e3, e4, e5, e6⟩ := hargs c
    refine ⟨(h c).1.trans ((Ref.kept_eq m' c).trans ?_), (h c).2.1.trans ((Ref.sods_eq m' c).trans ?_), (h c).2.2⟩
    · rw [e0, e1, e2, e3, e4, e5, e6]
      exact kept_same m c (hp c).1 (hp c).2.1 (hp c).2.2.1 (hp c).2.2.2
    · rw [e0, e1, e2, e3, e4, e5]
      exact sods_same m c (hp c).1 (hp c).2.1 (hp c).2.2.1 (hp c).2.2.2

end Cert.Proof.Edges
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

open Edges in
/-- Every claim of this certificate. -/
theorem claim : Cert.Claim := ⟨Cert.Kernel.Gen.facts, Cert.KernelIdeal.Gen.facts, Cert.ReferenceIdeal.Gen.facts, Cert.Pre_in_range.Gen.facts, Cert.Pre_in_range_finite.Gen.facts, frame_kernel, frame_kernelIdeal, frame_kernelIdeal_finite,
  frame_referenceIdeal, frame_referenceIdeal_finite, trivial, algebraic⟩

end Cert.Proof

end
